-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x2048 : Shape := ⟨3, ![1, 2048, 2048]⟩
abbrev S8x16x2048 : Shape := ⟨3, ![8, 16, 2048]⟩
abbrev S8x2048x16 : Shape := ⟨3, ![8, 2048, 16]⟩
abbrev S8x2048 : Shape := ⟨2, ![8, 2048]⟩
abbrev S1 : Shape := ⟨1, ![1]⟩
abbrev S_ : Shape := ⟨0, ![]⟩

class Facts : Prop where
  bcast_S_S1x2048x2048 : S_.BroadcastsInDim S1x2048x2048 (![] : Fin 0 → Fin S1x2048x2048.rank)
  bcast_S_S8x16x2048 : S_.BroadcastsInDim S8x16x2048 (![] : Fin 0 → Fin S8x16x2048.rank)
  bcast_S_S8x2048x16 : S_.BroadcastsInDim S8x2048x16 (![] : Fin 0 → Fin S8x2048x16.rank)
  bcast_S_S8x2048 : S_.BroadcastsInDim S8x2048 (![] : Fin 0 → Fin S8x2048.rank)
  bcast_S_S1 : S_.BroadcastsInDim S1 (![] : Fin 0 → Fin S1.rank)

variable [Facts]

def fn {F : FTy → Type} [FloatOps F] (main_arg0 : FVec F S1x2048x2048 .f32) (main_arg1 : FVec F S8x16x2048 .f32) (main_arg2 : FVec F S8x2048x16 .f32) (main_arg3 : FVec F S8x2048 .f32) (main_arg4 : FVec F S1 .f32) : IVec S1x2048x2048 1 × IVec S8x16x2048 1 × IVec S8x2048x16 1 × IVec S8x2048 1 × IVec S1 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S8x16x2048 .f32 := Host.absf main_arg1
  let main_cst_0 : FVec F S_ .f32 := constant S_ .f32 0x7F800000#32
  let main_v4 : FVec F S8x16x2048 .f32 := broadcastInDim S8x16x2048 ![] bcast_S_S8x16x2048 main_cst_0
  let main_v5 : IVec S8x16x2048 1 := cmpf .olt main_v3 main_v4
  let main_v6 : FVec F S8x2048x16 .f32 := Host.absf main_arg2
  let main_cst_1 : FVec F S_ .f32 := constant S_ .f32 0x7F800000#32
  let main_v7 : FVec F S8x2048x16 .f32 := broadcastInDim S8x2048x16 ![] bcast_S_S8x2048x16 main_cst_1
  let main_v8 : IVec S8x2048x16 1 := cmpf .olt main_v6 main_v7
  let main_v9 : FVec F S8x2048 .f32 := Host.absf main_arg3
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_v12 : FVec F S1 .f32 := Host.absf main_arg4
  let main_cst_3 : FVec F S_ .f32 := constant S_ .f32 0x7F800000#32
  let main_v13 : FVec F S1 .f32 := broadcastInDim S1 ![] bcast_S_S1 main_cst_3
  let main_v14 : IVec S1 1 := cmpf .olt main_v12 main_v13
  (main_v2, main_v5, main_v8, main_v11, main_v14)
-- ==== Kernel.lean ====
abbrev S1x2048x2048 : Shape := ⟨3, ![1, 2048, 2048]⟩
abbrev S8x16x2048 : Shape := ⟨3, ![8, 16, 2048]⟩
abbrev S8x2048x16 : Shape := ⟨3, ![8, 2048, 16]⟩
abbrev S8x2048 : Shape := ⟨2, ![8, 2048]⟩
abbrev S1 : Shape := ⟨1, ![1]⟩
abbrev S2048x2048 : Shape := ⟨2, ![2048, 2048]⟩
abbrev S128x2048 : Shape := ⟨2, ![128, 2048]⟩
abbrev S1x1 : Shape := ⟨2, ![1, 1]⟩
abbrev S512x1024 : Shape := ⟨2, ![512, 1024]⟩
abbrev S512x2048 : Shape := ⟨2, ![512, 2048]⟩
abbrev S136x2048 : Shape := ⟨2, ![136, 2048]⟩
abbrev S8x8 : Shape := ⟨2, ![8, 8]⟩
abbrev S8x128 : Shape := ⟨2, ![8, 128]⟩
abbrev S256x1024 : Shape := ⟨2, ![256, 1024]⟩
abbrev S136x1024 : Shape := ⟨2, ![136, 1024]⟩
abbrev S256x136 : Shape := ⟨2, ![256, 136]⟩
abbrev S256x128 : Shape := ⟨2, ![256, 128]⟩
abbrev S256x8 : Shape := ⟨2, ![256, 8]⟩
abbrev S256 : Shape := ⟨1, ![256]⟩
abbrev S256x1 : Shape := ⟨2, ![256, 1]⟩
abbrev S256x2048 : Shape := ⟨2, ![256, 2048]⟩

abbrev nBuf : Space → Nat
  | .hbm => 12
  | .vmem => 11
  | .smem => 0
  | _ => 0

abbrev bufTy : (tb : Table) → Fin (tcTables nBuf tb) → BufTy
  | .hbm, ⟨0, _⟩ => ⟨S1x2048x2048, .f32⟩
  | .hbm, ⟨1, _⟩ => ⟨S8x16x2048, .f32⟩
  | .hbm, ⟨2, _⟩ => ⟨S8x2048x16, .f32⟩
  | .hbm, ⟨3, _⟩ => ⟨S8x2048, .f32⟩
  | .hbm, ⟨4, _⟩ => ⟨S1, .f32⟩
  | .hbm, ⟨5, _⟩ => ⟨S2048x2048, .f32⟩
  | .hbm, ⟨6, _⟩ => ⟨S128x2048, .f32⟩
  | .hbm, ⟨7, _⟩ => ⟨S8x16x2048, .f32⟩
  | .hbm, ⟨8, _⟩ => ⟨S128x2048, .f32⟩
  | .hbm, ⟨9, _⟩ => ⟨S1x1, .f32⟩
  | .hbm, ⟨10, _⟩ => ⟨S2048x2048, .f32⟩
  | .hbm, ⟨11, _⟩ => ⟨S1x2048x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x2048, .f32⟩
  | .local _ .vmem, ⟨5, _⟩ => ⟨S128x2048, .f32⟩
  | .local _ .vmem, ⟨6, _⟩ => ⟨S128x2048, .f32⟩
  | .local _ .vmem, ⟨7, _⟩ => ⟨S1x1, .f32⟩
  | .local _ .vmem, ⟨8, _⟩ => ⟨S512x2048, .f32⟩
  | .local _ .vmem, ⟨9, _⟩ => ⟨S512x2048, .f32⟩
  | .local _ .vmem, ⟨10, _⟩ => ⟨S136x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x2048x2048 : Shape := ⟨3, ![1, 2048, 2048]⟩
abbrev S8x16x2048 : Shape := ⟨3, ![8, 16, 2048]⟩
abbrev S8x2048x16 : Shape := ⟨3, ![8, 2048, 16]⟩
abbrev S8x2048 : Shape := ⟨2, ![8, 2048]⟩
abbrev S1 : Shape := ⟨1, ![1]⟩
abbrev S2048x2048 : Shape := ⟨2, ![2048, 2048]⟩
abbrev S2048x8 : Shape := ⟨2, ![2048, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S2048x8x16 : Shape := ⟨3, ![2048, 8, 16]⟩
abbrev S8x2048x2048 : Shape := ⟨3, ![8, 2048, 2048]⟩
abbrev S2048x8x2048 : Shape := ⟨3, ![2048, 8, 2048]⟩

abbrev nBuf : Space → Nat
  | .hbm => 59
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S8x16x2048, .f32⟩
  | .hbm, ⟨2, _⟩ => ⟨S8x2048x16, .f32⟩
  | .hbm, ⟨3, _⟩ => ⟨S8x2048, .f32⟩
  | .hbm, ⟨4, _⟩ => ⟨S1, .f32⟩
  | .hbm, ⟨5, _⟩ => ⟨S2048x2048, .f32⟩
  | .hbm, ⟨6, _⟩ => ⟨S2048x8, .f32⟩
  | .hbm, ⟨7, _⟩ => ⟨S2048x8, .f32⟩
  | .hbm, ⟨8, _⟩ => ⟨S2048x8, .f32⟩
  | .hbm, ⟨9, _⟩ => ⟨S2048x2, .f32⟩
  | .hbm, ⟨10, _⟩ => ⟨S2048x2, .i32⟩
  | .hbm, ⟨11, _⟩ => ⟨S_, .f32⟩
  | .hbm, ⟨12, _⟩ => ⟨S2048x8, .f32⟩
  | .hbm, ⟨13, _⟩ => ⟨S2048, .i32⟩
  | .hbm, ⟨14, _⟩ => ⟨S2048x1, .i32⟩
  | .hbm, ⟨15, _⟩ => ⟨S_, .i32⟩
  | .hbm, ⟨16, _⟩ => ⟨S2048x1, .i32⟩
  | .hbm, ⟨17, _⟩ => ⟨S2048x1, .i1⟩
  | .hbm, ⟨18, _⟩ => ⟨S_, .i32⟩
  | .hbm, ⟨19, _⟩ => ⟨S2048x1, .i32⟩
  | .hbm, ⟨20, _⟩ => ⟨S2048x1, .i32⟩
  | .hbm, ⟨21, _⟩ => ⟨S2048x1, .i32⟩
  | .hbm, ⟨22, _⟩ => ⟨S_, .i32⟩
  | .hbm, ⟨23, _⟩ => ⟨S2048x2, .i32⟩
  | .hbm, ⟨24, _⟩ => ⟨S2048x2, .i1⟩
  | .hbm, ⟨25, _⟩ => ⟨S_, .i32⟩
  | .hbm, ⟨26, _⟩ => ⟨S2048x2, .i32⟩
  | .hbm, ⟨27, _⟩ => ⟨S2048x2, .i32⟩
  | .hbm, ⟨28, _⟩ => ⟨S2048x2, .i32⟩
  | .hbm, ⟨29, _⟩ => ⟨S2048x2, .i32⟩
  | .hbm, ⟨30, _⟩ => ⟨S2048x2x1, .i32⟩
  | .hbm, ⟨31, _⟩ => ⟨S2048x2x1, .i32⟩
  | .hbm, ⟨32, _⟩ => ⟨S2048x2x2, .i32⟩
  | .hbm, ⟨33, _⟩ => ⟨S2048x8, .f32⟩
  | .hbm, ⟨34, _⟩ => ⟨S_, .f32⟩
  | .hbm, ⟨35, _⟩ => ⟨S2048x8, .f32⟩
  | .hbm, ⟨36, _⟩ => ⟨S2048x8, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048x1, .f32⟩
  | .hbm, ⟨43, _⟩ => ⟨S2048x8, .f32⟩
  | .hbm, ⟨44, _⟩ => ⟨S2048x8, .f32⟩
  | .hbm, ⟨45, _⟩ => ⟨S2048x8, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x8, .f32⟩
  | .hbm, ⟨50, _⟩ => ⟨S2048x8, .f32⟩
  | .hbm, ⟨51, _⟩ => ⟨S2048x8x16, .f32⟩
  | .hbm, ⟨52, _⟩ => ⟨S8x2048x2048, .f32⟩
  | .hbm, ⟨53, _⟩ => ⟨S2048x8x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S2048x2048, .f32⟩
  | .hbm, ⟨58, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.Select.lean ====
/-
  The two experts a token is routed to, over extended reals: the first place where a row of eight scores is greatest, and the first place where
  the rest of the row is. Two ways of finding them meet here: a stable sort by decreasing score, and a mask of the places that equal the maximum
  with no equal place before them.
-/
module

public import Idealize.ShloMosaic.Lib.SortPrefix
public import Idealize.ShloMosaic.PureOps.Ideal.Laws

@[expose] public section

noncomputable section

namespace Cert.Arrow

open Idealize.ShloMosaic

/-! ## The first greatest place -/

/-- `e` is the first place where `v` is greatest. -/
def IsFirst (v : Fin 8 → EReal) (e : Fin 8) : Prop := (∀ j, v j ≤ v e) ∧ ∀ j, j < e → v j < v e

theorem exists_isFirst (v : Fin 8 → EReal) : ∃ e, IsFirst v e := by
  obtain ⟨m, -, hm⟩ := Finset.exists_max_image Finset.univ v Finset.univ_nonempty
  have hne : (Finset.univ.filter fun e => v e = v m).Nonempty := ⟨m, by simp⟩
  refine ⟨(Finset.univ.filter fun e => v e = v m).min' hne, ?_⟩
  have he : v ((Finset.univ.filter fun e => v e = v m).min' hne) = v m := (Finset.mem_filter.mp (Finset.min'_mem _ hne)).2
  refine ⟨fun j => by rw [he]; exact hm j (Finset.mem_univ j), fun j hj => ?_⟩
  rw [he]
  refine lt_of_le_of_ne (hm j (Finset.mem_univ j)) fun h => ?_
  exact absurd (Finset.min'_le _ j (by simp [h])) (not_le.mpr hj)

/-- The first place where `v` is greatest. -/
def first (v : Fin 8 → EReal) : Fin 8 := (exists_isFirst v).choose

theorem isFirst_first (v : Fin 8 → EReal) : IsFirst v (first v) := (exists_isFirst v).choose_spec

theorem isFirst_iff (v : Fin 8 → EReal) (e : Fin 8) : IsFirst v e ↔ e = first v := by
  refine ⟨fun h => ?_, fun h => h ▸ isFirst_first v⟩
  have h' := isFirst_first v
  rcases lt_trichotomy e (first v) with hlt | heq | hgt
  · exact absurd (h.1 (first v)) (not_le.mpr (h'.2 e hlt))
  · exact heq
  · exact absurd (h'.1 e) (not_le.mpr (h.2 _ hgt))

/-- The row with its first greatest place struck out. -/
def struck (v : Fin 8 → EReal) : Fin 8 → EReal := fun e => if e = first v then ⊥ else v e

/-- The second of the two places: the first greatest place of the rest. -/
def second (v : Fin 8 → EReal) : Fin 8 := first (struck v)

variable {v : Fin 8 → EReal}

theorem second_ne_first (hv : ∀ e, v e ≠ ⊥) : second v ≠ first v := by
  intro h
  obtain ⟨j, hj⟩ : ∃ j : Fin 8, j ≠ first v := exists_ne _
  have h1 := (isFirst_first (struck v)).1 j
  rw [show first (struck v) = first v from h] at h1
  simp only [struck, if_neg hj, if_true] at h1
  exact hv j (le_bot_iff.mp h1)

theorem struck_second (hv : ∀ e, v e ≠ ⊥) : struck v (second v) = v (second v) := by
  simp only [struck, if_neg (second_ne_first hv)]

/-- Away from the first place no score is above the second's. -/
theorem le_second (hv : ∀ e, v e ≠ ⊥) {j : Fin 8} (hj : j ≠ first v) : v j ≤ v (second v) := by
  have h := (isFirst_first (struck v)).1 j
  rw [show first (struck v) = second v from rfl, struck_second hv] at h
  simpa only [struck, if_neg hj] using h

/-- Away from the first place, scores before the second place are below the second's. -/
theorem lt_second (hv : ∀ e, v e ≠ ⊥) {j : Fin 8} (hj : j ≠ first v) (hlt : j < second v) : v j < v (second v) := by
  have h := (isFirst_first (struck v)).2 j hlt
  rw [show first (struck v) = second v from rfl, struck_second hv] at h
  simpa only [struck, if_neg hj] using h

theorem le_first (j : Fin 8) : v j ≤ v (first v) := (isFirst_first v).1 j

/-! ## The stable sort by decreasing score -/

/-- On a list in increasing order, a stable sort under `R` is the sort under `B` when `R` and `B` agree on pairs whose later
    element stands after the earlier one's position. -/
theorem stableSort_congr_of_lt {n : ℕ} (R B : Fin n → Fin n → Bool) (h : ∀ a b, a < b → R b a = B b a) (l : List (Fin n))
    (hl : l.Pairwise (· < ·)) : stableSort R l = stableSort B l := by
  induction l with
  | nil => rfl
  | cons a l ih =>
    obtain ⟨ha, hl'⟩ := List.pairwise_cons.mp hl
    unfold stableSort
    rw [ih hl']
    exact insertBefore_congr R B a _ fun b hb => h a b (ha b ((perm_stableSort B l).mem_iff.mp hb))

/-- Greater score first, equal scores by position. -/
def before (v : Fin 8 → EReal) (k k' : Fin 8) : Bool := decide (v k' < v k) || (decide (v k = v k') && decide (k < k'))

theorem before_strictTotal (v : Fin 8 → EReal) : StrictTotalBefore (before v) :=
  StrictTotalBefore.of_key_then_position (fun a b : EReal => decide (b < a)) v (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

theorem sortedFrom_gt (v : Fin 8 → EReal) (k : Fin 8) :
    sortedFrom (fun a b => decide (v b < v a)) k = sortedFrom (before v) k := by
  have h : sortPositions 8 (fun a b => decide (v b < v a)) = sortPositions 8 (before v) :=
    stableSort_congr_of_lt _ _ (fun a b hab => by
      have : ¬ b < a := not_lt.mpr hab.le
      simp [before, this]) _ (List.pairwise_lt_finRange 8)
  unfold sortedFrom
  rw [List.get_eq_getElem, List.get_eq_getElem]
  exact List.getElem_of_eq h _

/-- The sort puts the first greatest place first and the second next. -/
theorem sortedFrom_first_second (hv : ∀ e, v e ≠ ⊥) (i : Fin 2) :
    sortedFrom (fun a b => decide (v b < v a)) (i.castLE (by decide)) = ![first v, second v] i := by
  rw [sortedFrom_gt]
  have h21 := second_ne_first hv
  refine (before_strictTotal v).sortedFrom_eq_of_prefix (by decide) ![first v, second v] ?_ ?_ ?_ i
  · intro a b hab
    match a, b with
    | 0, 0 => rfl
    | 1, 1 => rfl
    | 0, 1 => exact absurd hab.symm h21
    | 1, 0 => exact absurd hab h21
  · intro a b hab
    match a, b with
    | 0, 0 => exact absurd hab (lt_irrefl _)
    | 1, 1 => exact absurd hab (lt_irrefl _)
    | 1, 0 => exact absurd hab (by decide)
    | 0, 1 =>
      show before v (second v) (first v) = false
      have h1 : ¬ v (first v) < v (second v) := not_lt.mpr (le_first _)
      simp only [before, decide_eq_false h1, Bool.false_or, Bool.and_eq_false_iff, decide_eq_false_iff_not]
      by_cases hlt : second v < first v
      · exact Or.inl (ne_of_lt ((isFirst_first v).2 _ hlt))
      · exact Or.inr hlt
  · intro a p hp
    have hp1 : p ≠ first v := fun h => hp 0 h.symm
    have hp2 : p ≠ second v := fun h => hp 1 h.symm
    match a with
    | 0 =>
      show before v p (first v) = false
      have h1 : ¬ v (first v) < v p := not_lt.mpr (le_first _)
      simp only [before, decide_eq_false h1, Bool.false_or, Bool.and_eq_false_iff, decide_eq_false_iff_not]
      by_cases hlt : p < first v
      · exact Or.inl (ne_of_lt ((isFirst_first v).2 _ hlt))
      · exact Or.inr hlt
    | 1 =>
      show before v p (second v) = false
      have h1 : ¬ v (second v) < v p := not_lt.mpr (le_second hv hp1)
      simp only [before, decide_eq_false h1, Bool.false_or, Bool.and_eq_false_iff, decide_eq_false_iff_not]
      by_cases hlt : p < second v
      · exact Or.inl (ne_of_lt (lt_second hv hp1 hlt))
      · exact Or.inr hlt

/-! ## The mask of the first greatest place -/

/-- One where the row equals its maximum. -/
def atMax (v : Fin 8 → EReal) (m : EReal) (e : Fin 8) : EReal := if v e = m then 1 else 0

/-- How many places before `e` equal the maximum: zero exactly when none does. -/
theorem count_eq_zero (v : Fin 8 → EReal) (m : EReal) (e : Fin 8) :
    (∑ j : Fin 8, atMax v m j * (if j < e then 1 else 0)) = 0 ↔ ∀ j, j < e → v j ≠ m := by
  have hnn : ∀ j ∈ (Finset.univ : Finset (Fin 8)), (0 : EReal) ≤ atMax v m j * (if j < e then 1 else 0) := fun j _ => by
    unfold atMax; split <;> split <;> simp
  rw [Finset.sum_eq_zero_iff_of_nonneg hnn]
  constructor
  · intro h j hj hm
    have := h j (Finset.mem_univ j)
    simp [atMax, hm, hj] at this
  · intro h j _
    by_cases hj : j < e
    · simp [atMax, h j hj]
    · simp [hj]

/-- The kernel's mask: the place equals the maximum and no earlier place does. -/
theorem mask_eq (v : Fin 8 → EReal) (e : Fin 8) :
    atMax v (v (first v)) e * (if (∑ j : Fin 8, atMax v (v (first v)) j * (if j < e then 1 else 0)) = 0 then 1 else 0)
      = if e = first v then 1 else 0 := by
  rw [if_congr (count_eq_zero v _ e) rfl rfl]
  by_cases he : e = first v
  · rw [if_pos he, if_pos (fun j hj => ne_of_lt ((isFirst_first v).2 j (he ▸ hj)))]
    simp [atMax, he]
  · rw [if_neg he]
    by_cases h1 : v e = v (first v)
    · rw [if_neg (fun h => he ((isFirst_iff v e).mp ⟨fun j => h1 ▸ le_first j, fun j hj => h1 ▸ lt_of_le_of_ne (le_first j) (h j hj)⟩)), mul_zero]
    · simp [atMax, h1]

/-- The fold of `max` from the least extended real is the greatest score. -/
theorem fold_max_eq (v : Fin 8 → EReal) : (Finset.univ : Finset (Fin 8)).fold max ⊥ v = v (first v) := by
  refine le_antisymm ?_ ?_
  · rw [Finset.fold_max_le]
    exact ⟨bot_le, fun j _ => le_first j⟩
  · rw [Finset.le_fold_max]
    exact Or.inr ⟨first v, Finset.mem_univ _, le_rfl⟩

end Cert.Arrow

end
-- ==== Proof.Coeff.lean ====
/-
  A token's coefficients as real numbers: with the scores `s`, the first greatest place has weight one, the second `exp (second score - first score)`,
  the others none; each divided by the sum of the weights. The softmax over the scores at the two places and `⊥` elsewhere gives these numbers, and so
  does the kernel's closed form.
-/
module

public import proofs.«01_k».proof.Proof.Select

@[expose] public section

noncomputable section

namespace Cert.Arrow

open Idealize.ShloMosaic

/-- The `f32` word of `-inf`. -/
theorem ofBits_ninf : Ideal.ofBits .f32 0xFF800000#32 = ⊥ := by
  show Ideal.ieee 8 23 (0xFF800000#32 : BitVec 32) = ⊥
  unfold Ideal.ieee
  simp

/-- The `f32` word of `+inf`. -/
theorem ofBits_pinf : Ideal.ofBits .f32 0x7F800000#32 = ⊤ := by
  show Ideal.ieee 8 23 (0x7F800000#32 : BitVec 32) = ⊤
  unfold Ideal.ieee
  simp

/-- Real scores as extended ones. -/
abbrev up (s : Fin 8 → ℝ) : Fin 8 → EReal := fun e => ((s e : ℝ) : EReal)

theorem up_ne_bot (s : Fin 8 → ℝ) (e : Fin 8) : up s e ≠ ⊥ := EReal.coe_ne_bot _

/-- The second place's weight. -/
def ratio (s : Fin 8 → ℝ) : ℝ := Real.exp (s (second (up s)) - s (first (up s)))

theorem ratio_pos (s : Fin 8 → ℝ) : 0 < ratio s := Real.exp_pos _

/-- A place's weight. -/
def weight (s : Fin 8 → ℝ) (e : Fin 8) : ℝ := if e = first (up s) then 1 else if e = second (up s) then ratio s else 0

/-- A place's coefficient. -/
def coeff (s : Fin 8 → ℝ) (e : Fin 8) : ℝ := weight s e / (1 + ratio s)

theorem sum_weight (s : Fin 8 → ℝ) : ∑ e, weight s e = 1 + ratio s := by
  have h21 := second_ne_first (up_ne_bot s)
  have h : ∀ e, weight s e = (if e = first (up s) then 1 else 0) + (if e = second (up s) then ratio s else 0) := fun e => by
    unfold weight
    by_cases h1 : e = first (up s)
    · have h2 : ¬ e = second (up s) := fun h => h21 (h.symm.trans h1)
      rw [if_pos h1, if_pos h1, if_neg h2, add_zero]
    · rw [if_neg h1, if_neg h1, zero_add]
  simp only [h, Finset.sum_add_distrib, Finset.sum_ite_eq', Finset.mem_univ, if_true]

/-! ## The softmax -/

/-- The scores kept at the two places. -/
def kept (v : Fin 8 → EReal) (e : Fin 8) : EReal := if e = first v ∨ e = second v then v e else ⊥

theorem fold_kept (v : Fin 8 → EReal) : (Finset.univ : Finset (Fin 8)).fold max ⊥ (kept v) = v (first v) := by
  refine le_antisymm ?_ ?_
  · rw [Finset.fold_max_le]
    refine ⟨bot_le, fun j _ => ?_⟩
    unfold kept
    split
    · exact le_first j
    · exact bot_le
  · rw [Finset.le_fold_max]
    exact Or.inr ⟨first v, Finset.mem_univ _, by simp [kept]⟩

theorem exp_kept (s : Fin 8 → ℝ) (e : Fin 8) : Ideal.exp (kept (up s) e - up s (first (up s))) = ((weight s e : ℝ) : EReal) := by
  unfold kept weight
  by_cases h1 : e = first (up s)
  · rw [if_pos (Or.inl h1), if_pos h1, h1]
    show Ideal.exp (((s (first (up s)) : ℝ) : EReal) - ((s (first (up s)) : ℝ) : EReal)) = _
    rw [← EReal.coe_sub, Ideal.exp_coe, sub_self, Real.exp_zero]
  · rw [if_neg h1]
    by_cases h2 : e = second (up s)
    · rw [if_pos (Or.inr h2), if_pos h2, h2]
      show Ideal.exp (((s (second (up s)) : ℝ) : EReal) - ((s (first (up s)) : ℝ) : EReal)) = _
      rw [← EReal.coe_sub, Ideal.exp_coe]
      rfl
    · rw [if_neg (by tauto), if_neg h2]
      show Ideal.exp (⊥ - ((s (first (up s)) : ℝ) : EReal)) = _
      rw [sub_eq_add_neg, EReal.bot_add, Ideal.exp_bot]
      rfl

/-- A finite sum of reals, as extended reals. -/
theorem coe_sum {ι : Type} (t : Finset ι) (f : ι → ℝ) : (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The softmax's quotient. -/
theorem softmax_kept (s : Fin 8 → ℝ) (e : Fin 8) :
    Ideal.div (Ideal.exp (kept (up s) e - up s (first (up s)))) (∑ j, Ideal.exp (kept (up s) j - up s (first (up s))))
      = ((coeff s e : ℝ) : EReal) := by
  have hne : (1 + ratio s) ≠ 0 := by have := ratio_pos s; positivity
  simp only [exp_kept]
  rw [coe_sum, sum_weight, Ideal.div_coe hne, ← EReal.coe_mul]
  unfold coeff
  rw [mul_one_div]

/-! ## The kernel's closed form -/

/-- The two masks, the second weighted, times the scale over the sum of the weights. -/
theorem closed_form (s : Fin 8 → ℝ) (c : ℝ) (e : Fin 8) :
    ((if e = first (up s) then 1 else 0) + (if e = second (up s) then 1 else 0) * Ideal.exp (up s (second (up s)) - up s (first (up s))))
        * Ideal.div (c : EReal) (1 + Ideal.exp (up s (second (up s)) - up s (first (up s))))
      = ((c * coeff s e : ℝ) : EReal) := by
  have hne : (1 + ratio s) ≠ 0 := by have := ratio_pos s; positivity
  have h21 := second_ne_first (up_ne_bot s)
  have hexp : Ideal.exp (up s (second (up s)) - up s (first (up s))) = ((ratio s : ℝ) : EReal) := by
    show Ideal.exp (((s (second (up s)) : ℝ) : EReal) - ((s (first (up s)) : ℝ) : EReal)) = _
    rw [← EReal.coe_sub, Ideal.exp_coe]
    rfl
  have hw : ((if e = first (up s) then (1 : EReal) else 0) + (if e = second (up s) then 1 else 0) * ((ratio s : ℝ) : EReal))
      = ((weight s e : ℝ) : EReal) := by
    unfold weight
    by_cases h1 : e = first (up s)
    · have h2 : ¬ e = second (up s) := fun h => h21 (h.symm.trans h1)
      simp [h1, h21.symm]
    · by_cases h2 : e = second (up s)
      · simp [h2, h21]
      · simp [h1, h2]
  rw [hexp, hw, show (1 : EReal) + ((ratio s : ℝ) : EReal) = ((1 + ratio s : ℝ) : EReal) from by rw [EReal.coe_add]; rfl,
    Ideal.div_coe hne, ← EReal.coe_mul, ← EReal.coe_mul]
  unfold coeff
  congr 1
  ring

end Cert.Arrow

end
-- ==== Proof.Mask.lean ====
/-
  The kernel's routing steps on a block of 256 rows of eight scores, read at an index: a row's maximum, the mask of its first greatest place, and the
  row with that place struck out.
-/
module

public import proofs.«01_k».proof.Proof.Coeff
public import proofs.«01_k».proof.Proof.Gen.KernelIdeal.Skeleton
public import Idealize.ShloMosaic.Lib.Pipeline.Value
public import Idealize.ShloMosaic.Lib.ValueIdx
public import Idealize.ShloMosaic.Lib.MatmulPlain
public import Idealize.ShloMosaic.Lib.WordCmp
public import Idealize.ShloMosaic.Lib.IdealHost

@[expose] public section

noncomputable section

namespace Cert.Arrow

open Cert.KernelIdeal Cert.KernelIdeal.Gen Idealize.ShloMosaic Idealize.ShloMosaic.ValueIdx

/-- Row `p` of a block of scores. -/
def scores (y : FVec Ideal S256x8 .f32) (p : Fin 256) : Fin 8 → EReal := fun e => y (ix2 p e)

/-- A truth value as a float. -/
theorem sitofp_extui_ofBool (b : Bool) :
    FloatOps.sitofp (F := Ideal) .f32 ((BitVec.ofBool b).setWidth 32) = if b then (1 : EReal) else 0 := by
  cases b
  · show (((0 : ℤ) : ℝ) : EReal) = 0
    simp
  · show (((1 : ℤ) : ℝ) : EReal) = 1
    simp

/-- A prop's truth value as a float. -/
theorem sitofp_extui_decide (p : Prop) [Decidable p] :
    FloatOps.sitofp (F := Ideal) .f32 ((BitVec.ofBool (decide p)).setWidth 32) = if p then (1 : EReal) else 0 := by
  rw [sitofp_extui_ofBool]
  by_cases h : p <;> simp [h]

/-- The strict order of places: one where the first is before the second. -/
theorem lower_at (j e : Fin 8) : k0_pay4 (F := Ideal) (ix2 j e) = if j < e then (1 : EReal) else 0 := by
  show FloatOps.sitofp (F := Ideal) .f32 ((IntOp.cmpi .slt (iota .tc S8x8 32 [0] iota_S8x8_d0_w32 (ix2 j e))
    (iota .tc S8x8 32 [1] iota_S8x8_d1_w32 (ix2 j e))).setWidth 32) = _
  rw [iota_single_apply, iota_single_apply]
  have h : IntOp.cmpi .slt (BitVec.ofNat 32 j.val) (BitVec.ofNat 32 e.val) = BitVec.ofBool (decide (j < e)) := by
    revert j e; decide
  refine (congrArg (fun b : BitVec 1 => FloatOps.sitofp (F := Ideal) .f32 (b.setWidth 32)) h).trans ?_
  exact sitofp_extui_decide _

/-- A column of 256 read along eight lanes. -/
theorem spread_at (x : FVec Ideal S256x1 .f32) (p : Fin 256) (e : Fin 8) :
    broadcastTo S256x8 x broadcasts_S256x1_S256x8 (ix2 p e) = x (ix2 p (0 : Fin 1)) :=
  broadcastTo_apply x broadcasts_S256x1_S256x8 (ix2 p e) (ix2 p (0 : Fin 1)) (fun a => by
    match a with
    | ⟨0, _⟩ => rfl
    | ⟨1, _⟩ => rfl)

/-- The rows' maxima, as a column. -/
def maxCol (y : FVec Ideal S256x8 .f32) : FVec Ideal S256x1 .f32 :=
  shapeCast S256x1 (multiReduction .maximumf [1] S256 y 0xFF800000#32 reduces_S256x8_S256 (.inl rfl) rfl) shapeCasts_S256_S256x1

theorem maxCol_at (y : FVec Ideal S256x8 .f32) (p : Fin 256) : maxCol y (ix2 p (0 : Fin 1)) = scores y p (first (scores y p)) := by
  unfold maxCol
  rw [shapeCast_apply _ shapeCasts_S256_S256x1 (ix2 p (0 : Fin 1)) (ix1 p) (by
    rw [Shape.rowMajor_val_one, Shape.rowMajor_val_two]; show p.val = p.val * 1 + 0; omega)]
  refine (Ideal.multiReduction_maximumf_single y _ reduces_S256x8_S256 (.inl rfl) rfl (ix1 p)).trans ?_
  rw [← fold_max_eq (scores y p)]
  show (Finset.univ : Finset (Fin 8)).fold max (Ideal.ofBits .f32 0xFF800000#32) _ = _
  rw [ofBits_ninf]
  refine congrArg (fun f : Fin 8 → EReal => (Finset.univ : Finset (Fin 8)).fold max ⊥ f) (funext fun k => ?_)
  exact congrArg y (funext fun a => Fin.ext (by match a with | ⟨0, _⟩ => rfl | ⟨1, _⟩ => rfl))

/-- One where a score equals its row's maximum. -/
def equalMax (y : FVec Ideal S256x8 .f32) : FVec Ideal S256x8 .f32 :=
  sitofp .f32 (extui 32 (cmpf .oeq y (broadcastTo S256x8 (maxCol y) broadcasts_S256x1_S256x8)) natLt_1_32)

theorem equalMax_at (y : FVec Ideal S256x8 .f32) (p : Fin 256) (e : Fin 8) :
    equalMax y (ix2 p e) = atMax (scores y p) (scores y p (first (scores y p))) e := by
  show FloatOps.sitofp (F := Ideal) .f32 ((Ideal.cmp .oeq (y (ix2 p e)) (broadcastTo S256x8 (maxCol y) broadcasts_S256x1_S256x8 (ix2 p e))).setWidth 32) = _
  rw [spread_at, maxCol_at]
  exact sitofp_extui_decide (scores y p e = scores y p (first (scores y p)))

/-- The mask of each row's first greatest place: equal to the maximum, with no equal place before. -/
def firstMask (y : FVec Ideal S256x8 .f32) : FVec Ideal S256x8 .f32 :=
  mulf (equalMax y) (sitofp .f32 (extui 32 (cmpf .oeq
    (matmul dot_S256x8_S8x8_S256x8_1_0_0_1_n_n none (equalMax y) k0_pay4 (constant S256x8 .f32 0x00000000#32))
    (broadcast S256x8 (Scalar.ofBits .f32 0x00000000#32))) natLt_1_32))

theorem firstMask_at (y : FVec Ideal S256x8 .f32) (p : Fin 256) (e : Fin 8) :
    firstMask y (ix2 p e) = if e = first (scores y p) then 1 else 0 := by
  have hm : matmul dot_S256x8_S8x8_S256x8_1_0_0_1_n_n none (equalMax y) k0_pay4 (constant S256x8 .f32 0x00000000#32) (ix2 p e)
      = ∑ j : Fin 8, atMax (scores y p) (scores y p (first (scores y p))) j * (if j < e then 1 else 0) := by
    refine (Ideal.matmul_plain_apply (M := 256) (K := 8) (N := 8) none (equalMax y) k0_pay4 (constant S256x8 .f32 0x00000000#32) p e).trans ?_
    show Ideal.ofBits .f32 0x00000000#32 + _ = _
    rw [Ideal.ofBits_zero_f32, zero_add]
    exact Finset.sum_congr rfl fun j _ => by rw [equalMax_at, lower_at]
  show equalMax y (ix2 p e) * FloatOps.sitofp (F := Ideal) .f32 ((Ideal.cmp .oeq
    (matmul dot_S256x8_S8x8_S256x8_1_0_0_1_n_n none (equalMax y) k0_pay4 (constant S256x8 .f32 0x00000000#32) (ix2 p e))
    (Ideal.ofBits .f32 0x00000000#32)).setWidth 32) = _
  rw [hm, equalMax_at, Ideal.ofBits_zero_f32, ← mask_eq]
  exact congrArg (atMax (scores y p) (scores y p (first (scores y p))) e * ·) (sitofp_extui_decide _)

/-- The scores with each row's first greatest place struck out. -/
def strike (y : FVec Ideal S256x8 .f32) : FVec Ideal S256x8 .f32 :=
  select (cmpf .ogt (firstMask y) (broadcast S256x8 (Scalar.ofBits .f32 0x00000000#32)))
    (broadcast S256x8 (Scalar.ofBits .f32 0xFF800000#32)) y

theorem scores_strike (y : FVec Ideal S256x8 .f32) (p : Fin 256) : scores (strike y) p = struck (scores y p) := by
  funext e
  show Scalar.select (BitVec.ofBool (decide (Ideal.ofBits .f32 0x00000000#32 < firstMask y (ix2 p e)))) (Ideal.ofBits .f32 0xFF800000#32) (y (ix2 p e)) = _
  rw [WordCmp.select_decide, firstMask_at, Ideal.ofBits_zero_f32, ofBits_ninf]
  unfold struck
  by_cases h : e = first (scores y p)
  · rw [if_pos h, if_pos h, if_pos (by norm_num)]
  · rw [if_neg h, if_neg h, if_neg (lt_irrefl _)]
    rfl

end Cert.Arrow

end
-- ==== Proof.Block.lean ====
/-
  What one half of a block computes: 256 rows of the layer's output from the rows' two column halves, the stacked weights' two column halves, the
  scaling, and the up projections.
-/
module

public import proofs.«01_k».proof.Proof.Mask

@[expose] public section

noncomputable section

namespace Cert.Arrow

open Cert.KernelIdeal Cert.KernelIdeal.Gen Idealize.ShloMosaic Idealize.ShloMosaic.ValueIdx

/-! ## The coefficients -/

/-- The second place's weight, as a column. -/
def ratioCol (y : FVec Ideal S256x8 .f32) : FVec Ideal S256x1 .f32 :=
  exp (divf (subf (maxCol (strike y)) (maxCol y)) (broadcast S256x1 (Scalar.ofBits .f32 0x3F800000#32)))

/-- The scaled coefficients. -/
def scaledCoeff (s : Ideal .f32) (y : FVec Ideal S256x8 .f32) : FVec Ideal S256x8 .f32 :=
  mulf (addf (firstMask y) (mulf (firstMask (strike y)) (broadcastTo S256x8 (ratioCol y) broadcasts_S256x1_S256x8)))
    (broadcastTo S256x8 (divf (broadcast S256x1 s) (addf (broadcast S256x1 (Scalar.ofBits .f32 0x3F800000#32)) (ratioCol y))) broadcasts_S256x1_S256x8)

/-- Division by the real one. -/
theorem div_one' (x : EReal) : Ideal.div x 1 = x := by
  rw [show (1 : EReal) = ((1 : ℝ) : EReal) from rfl, Ideal.div_coe one_ne_zero, one_div_one, EReal.coe_one, mul_one]

theorem ratioCol_at (y : FVec Ideal S256x8 .f32) (p : Fin 256) (σ : Fin 8 → ℝ) (hσ : scores y p = up σ) :
    ratioCol y (ix2 p (0 : Fin 1)) = Ideal.exp (up σ (second (up σ)) - up σ (first (up σ))) := by
  show Ideal.exp (Ideal.div (maxCol (strike y) (ix2 p (0 : Fin 1)) - maxCol y (ix2 p (0 : Fin 1))) (Ideal.ofBits .f32 0x3F800000#32)) = _
  rw [Ideal.ofBits_one_f32, div_one', maxCol_at, maxCol_at, scores_strike, hσ]
  show Ideal.exp (struck (up σ) (second (up σ)) - _) = _
  rw [struck_second (up_ne_bot σ)]

theorem scaledCoeff_at (c : ℝ) (y : FVec Ideal S256x8 .f32) (p : Fin 256) (σ : Fin 8 → ℝ) (hσ : scores y p = up σ) (e : Fin 8) :
    scaledCoeff ((c : ℝ) : EReal) y (ix2 p e) = ((c * coeff σ e : ℝ) : EReal) := by
  show (firstMask y (ix2 p e) + firstMask (strike y) (ix2 p e) * broadcastTo S256x8 (ratioCol y) broadcasts_S256x1_S256x8 (ix2 p e))
    * broadcastTo S256x8 (divf (broadcast S256x1 (((c : ℝ) : EReal) : Ideal .f32))
        (addf (broadcast S256x1 (Scalar.ofBits .f32 0x3F800000#32)) (ratioCol y))) broadcasts_S256x1_S256x8 (ix2 p e) = _
  rw [spread_at, spread_at]
  show _ * Ideal.div ((c : ℝ) : EReal) (Ideal.ofBits .f32 0x3F800000#32 + ratioCol y (ix2 p (0 : Fin 1))) = _
  rw [ratioCol_at y p σ hσ, firstMask_at, firstMask_at, scores_strike, hσ, Ideal.ofBits_one_f32]
  exact closed_form σ c e

/-! ## The expansion from experts to their ranks -/

/-- The expert that a stacked row belongs to. -/
def expert (q : Fin 128) : Fin 8 := ⟨q.val / 16, by have := q.isLt; omega⟩

/-- The floor quotient by sixteen on one word, as the kernel writes it. -/
def floorWord (w : BitVec 32) : BitVec 32 :=
  Scalar.select (IntOp.andi
      (IntOp.cmpi .ne (IntOp.subi ((IntOp.cmpi .sgt w 0#32).setWidth 32) ((IntOp.cmpi .slt w 0#32).setWidth 32))
        (Scalar.subi (Scalar.extui (Scalar.cmpi .sgt 16#32 0#32)) (Scalar.extui (Scalar.cmpi .slt 16#32 0#32))))
      (IntOp.cmpi .ne (Scalar.remsi w 16#32) 0#32))
    (IntOp.subi (Scalar.divsi w 16#32) 1#32) (Scalar.divsi w 16#32)

set_option maxRecDepth 100000 in
theorem floorWord_eq : ∀ q : Fin 128, floorWord (BitVec.ofNat 32 q.val) = BitVec.ofNat 32 (expert q).val := by
  decide

theorem expand_at (e : Fin 8) (q : Fin 128) : k0_pay5 (F := Ideal) (ix2 e q) = if e = expert q then (1 : EReal) else 0 := by
  show FloatOps.sitofp (F := Ideal) .f32 ((IntOp.cmpi .eq (floorWord (iota .tc S8x128 32 [1] iota_S8x128_d1_w32 (ix2 e q)))
    (iota .tc S8x128 32 [0] iota_S8x128_d0_w32 (ix2 e q))).setWidth 32) = _
  rw [iota_single_apply, iota_single_apply]
  have h : IntOp.cmpi .eq (floorWord (BitVec.ofNat 32 q.val)) (BitVec.ofNat 32 e.val) = BitVec.ofBool (decide (e = expert q)) := by
    rw [floorWord_eq]
    generalize expert q = e'
    revert e e'; decide
  refine (congrArg (fun b : BitVec 1 => FloatOps.sitofp (F := Ideal) .f32 (b.setWidth 32)) h).trans ?_
  exact sitofp_extui_decide _

/-- Each stacked row's coefficient: its expert's. -/
def spreadCoeff (s : Ideal .f32) (y : FVec Ideal S256x8 .f32) : FVec Ideal S256x128 .f32 :=
  matmul dot_S256x8_S8x128_S256x128_1_0_0_1_n_n none (scaledCoeff s y) k0_pay5 (constant S256x128 .f32 0x00000000#32)

theorem spreadCoeff_at (c : ℝ) (y : FVec Ideal S256x8 .f32) (p : Fin 256) (σ : Fin 8 → ℝ) (hσ : scores y p = up σ) (q : Fin 128) :
    spreadCoeff ((c : ℝ) : EReal) y (ix2 p q) = ((c * coeff σ (expert q) : ℝ) : EReal) := by
  unfold spreadCoeff
  refine (Ideal.matmul_plain_apply (M := 256) (K := 8) (N := 128) none _ k0_pay5 (constant S256x128 .f32 0x00000000#32) p q).trans ?_
  show Ideal.ofBits .f32 0x00000000#32 + _ = _
  rw [Ideal.ofBits_zero_f32, zero_add, Finset.sum_congr rfl fun e _ => by rw [scaledCoeff_at c y p σ hσ, expand_at]]
  simp only [mul_ite, mul_one, mul_zero, Finset.sum_ite_eq', Finset.mem_univ, if_true]

/-! ## The half block -/

/-- The output rows from the projections `z`, the scores `y` and the up projections `b`. -/
def mix (s : Ideal .f32) (z : FVec Ideal S256x128 .f32) (y : FVec Ideal S256x8 .f32) (b : Vec Ideal S128x2048 .f32) : FVec Ideal S256x2048 .f32 :=
  matmul (φ₂ := .f32) dot_S256x128_S128x2048_S256x2048_1_0_0_1_n_n none (mulf z (spreadCoeff s y)) (shapeCast S128x2048 b shapeCasts_S128x2048_S128x2048)
    (constant S256x2048 .f32 0x00000000#32)

/-- A cast to the same shape changes nothing. -/
theorem shapeCast_same {s : Shape} {α : Type} (x : s.Idx → α) (h : s.ShapeCasts s) : shapeCast s x h = x :=
  funext fun j => shapeCast_apply x h j j rfl

theorem mix_at (c : ℝ) (z : FVec Ideal S256x128 .f32) (y : FVec Ideal S256x8 .f32) (b : Vec Ideal S128x2048 .f32) (p : Fin 256) (o : Fin 2048)
    (σ : Fin 8 → ℝ) (hσ : scores y p = up σ) (z' b' : Fin 128 → ℝ) (hz : ∀ q, z (ix2 p q) = ((z' q : ℝ) : EReal))
    (hb : ∀ q, b (ix2 q o) = ((b' q : ℝ) : EReal)) :
    mix ((c : ℝ) : EReal) z y b (ix2 p o) = ((∑ q, z' q * (c * coeff σ (expert q)) * b' q : ℝ) : EReal) := by
  unfold mix
  rw [shapeCast_same]
  refine (Ideal.matmul_plain_apply (M := 256) (K := 128) (N := 2048) (φ₂ := .f32) none _ b (constant S256x2048 .f32 0x00000000#32) p o).trans ?_
  show Ideal.ofBits .f32 0x00000000#32 + ∑ q : Fin 128, (z (ix2 p q) * spreadCoeff ((c : ℝ) : EReal) y (ix2 p q)) * b (ix2 q o) = _
  rw [Ideal.ofBits_zero_f32, zero_add, Finset.sum_congr rfl fun q _ => by rw [spreadCoeff_at c y p σ hσ, hz, hb, ← EReal.coe_mul, ← EReal.coe_mul]]
  exact coe_sum _ _

/-- The projections and the signed similarities, side by side. -/
def project (xl : Vec Ideal S256x1024 .f32) (wl : Vec Ideal S136x1024 .f32) (xr : Vec Ideal S256x1024 .f32) (wr : Vec Ideal S136x1024 .f32) :
    FVec Ideal S256x136 .f32 :=
  k0_pay19 xl wl xr wr

theorem project_at (xl : Vec Ideal S256x1024 .f32) (wl : Vec Ideal S136x1024 .f32) (xr : Vec Ideal S256x1024 .f32) (wr : Vec Ideal S136x1024 .f32)
    (p : Fin 256) (q : Fin 136) :
    project xl wl xr wr (ix2 p q) = (∑ k : Fin 1024, xl (ix2 p k) * wl (ix2 q k)) + ∑ k : Fin 1024, xr (ix2 p k) * wr (ix2 q k) := by
  have h : ∀ (x : Vec Ideal S256x1024 .f32) (w : Vec Ideal S136x1024 .f32),
      matmul (F := Ideal) (φ₁ := .f32) (φ₂ := .f32) dot_S256x1024_S136x1024_S256x136_1_1_0_0_n_n none x w (constant S256x136 .f32 0x00000000#32) (ix2 p q)
        = ∑ k : Fin 1024, x (ix2 p k) * w (ix2 q k) := fun x w => by
    refine (Ideal.matmul_transposedRhs_apply (M := 256) (K := 1024) (N := 136) (φ₁ := .f32) (φ₂ := .f32) none x w (constant S256x136 .f32 0x00000000#32) p q).trans ?_
    show Ideal.ofBits .f32 0x00000000#32 + _ = _
    rw [Ideal.ofBits_zero_f32, zero_add]
  unfold project k0_pay19
  rw [shapeCast_same, shapeCast_same]
  show matmul (F := Ideal) (φ₁ := .f32) (φ₂ := .f32) _ none xl wl _ (ix2 p q) + matmul (F := Ideal) (φ₁ := .f32) (φ₂ := .f32) _ none xr wr _ (ix2 p q) = _
  rw [h, h]

/-- The down projections. -/
def downs (zz : FVec Ideal S256x136 .f32) : FVec Ideal S256x128 .f32 := extractStridedSlice S256x128 ![0, 0] zz slices_S256x136_o0_0_S256x128

theorem downs_at (zz : FVec Ideal S256x136 .f32) (p : Fin 256) (q : Fin 128) : downs zz (ix2 p q) = zz (ix2 p (⟨q.val, by omega⟩ : Fin 136)) := by
  unfold downs
  exact extractStridedSlice_apply ![0, 0] zz slices_S256x136_o0_0_S256x128 (ix2 p q) (ix2 p (⟨q.val, by omega⟩ : Fin 136)) (fun a => by
    match a with
    | ⟨0, _⟩ => show p.val = 0 + p.val; omega
    | ⟨1, _⟩ => show q.val = 0 + q.val; omega)

/-- The similarities. -/
def sims (zz : FVec Ideal S256x136 .f32) : FVec Ideal S256x8 .f32 := absf (extractStridedSlice S256x8 ![0, 128] zz slices_S256x136_o0_128_S256x8)

theorem sims_at (zz : FVec Ideal S256x136 .f32) (p : Fin 256) (e : Fin 8) :
    sims zz (ix2 p e) = max (zz (ix2 p (⟨128 + e.val, by omega⟩ : Fin 136))) (-(zz (ix2 p (⟨128 + e.val, by omega⟩ : Fin 136)))) := by
  have h : extractStridedSlice S256x8 ![0, 128] zz slices_S256x136_o0_128_S256x8 (ix2 p e) = zz (ix2 p (⟨128 + e.val, by omega⟩ : Fin 136)) :=
    extractStridedSlice_apply ![0, 128] zz slices_S256x136_o0_128_S256x8 (ix2 p e) _ (fun a => by
      match a with
      | ⟨0, _⟩ => show p.val = 0 + p.val; omega
      | ⟨1, _⟩ => rfl)
  show max (extractStridedSlice S256x8 ![0, 128] zz slices_S256x136_o0_128_S256x8 (ix2 p e))
    (-(extractStridedSlice S256x8 ![0, 128] zz slices_S256x136_o0_128_S256x8 (ix2 p e))) = _
  rw [h]

/-- One half block. -/
def half (xl : Vec Ideal S256x1024 .f32) (wl : Vec Ideal S136x1024 .f32) (xr : Vec Ideal S256x1024 .f32) (wr : Vec Ideal S136x1024 .f32)
    (b : Vec Ideal S128x2048 .f32) (s : Vec Ideal S1x1 .f32) : FVec Ideal S256x2048 .f32 :=
  mix (k0_pay6 s) (downs (project xl wl xr wr)) (sims (project xl wl xr wr)) b

/-- The first half's stored value. -/
theorem first_half (xl : Vec Ideal S256x1024 .f32) (wl : Vec Ideal S136x1024 .f32) (xr : Vec Ideal S256x1024 .f32) (wr : Vec Ideal S136x1024 .f32)
    (b : Vec Ideal S128x2048 .f32) (s : Vec Ideal S1x1 .f32) :
    k0_pay18 k0_pay5 (k0_pay6 s) (k0_pay9 (k0_pay7 xl) wl (constant S256x136 .f32 0x00000000#32) xr wr)
      (k0_pay15 k0_pay4 (k0_pay7 xl) wl (constant S256x136 .f32 0x00000000#32) xr wr)
      (k0_pay16 k0_pay4 (k0_pay7 xl) wl (constant S256x136 .f32 0x00000000#32) xr wr) k0_pay17 b = half xl wl xr wr b s := rfl

/-- The second half's stored value. -/
theorem second_half (xl : Vec Ideal S256x1024 .f32) (wl : Vec Ideal S136x1024 .f32) (xr : Vec Ideal S256x1024 .f32) (wr : Vec Ideal S136x1024 .f32)
    (b : Vec Ideal S128x2048 .f32) (s : Vec Ideal S1x1 .f32) :
    k0_pay1 k0_pay4 k0_pay5 (k0_pay6 s) (k0_pay20 xl wl xr wr) (k0_pay21 xl wl xr wr) (k0_pay22 xl wl xr wr) (k0_pay23 k0_pay4 xl wl xr wr)
      (k0_pay24 k0_pay4 xl wl xr wr) k0_pay25 b = half xl wl xr wr b s := rfl

end Cert.Arrow

end
-- ==== Proof.Spec.lean ====
/-
  The layer's function over real numbers, as the problem states it: `X` the tokens, `A` and `B` the experts' down and up projections, `P` the
  prototypes, `c` the scaling.
-/
module

public import proofs.«01_k».proof.Proof.Coeff

@[expose] public section

noncomputable section

namespace Cert.Arrow

/-- Token `t`'s similarity to expert `e`. -/
def sim (X : Fin 2048 → Fin 2048 → ℝ) (P : Fin 8 → Fin 2048 → ℝ) (t : Fin 2048) (e : Fin 8) : ℝ := |∑ f, X t f * P e f|

/-- Token `t` projected down by expert `e`. -/
def down (X : Fin 2048 → Fin 2048 → ℝ) (A : Fin 8 → Fin 16 → Fin 2048 → ℝ) (t : Fin 2048) (e : Fin 8) (r : Fin 16) : ℝ := ∑ f, X t f * A e r f

/-- The layer's output for token `t` at feature `o`. -/
def layer (X : Fin 2048 → Fin 2048 → ℝ) (A : Fin 8 → Fin 16 → Fin 2048 → ℝ) (B : Fin 8 → Fin 2048 → Fin 16 → ℝ) (P : Fin 8 → Fin 2048 → ℝ) (c : ℝ)
    (t o : Fin 2048) : ℝ :=
  c * ∑ e, coeff (sim X P t) e * ∑ r, B e o r * down X A t e r

end Cert.Arrow

end
-- ==== Proof.HalfValue.lean ====
/-
  A half block over finite inputs is the layer's function on its rows: the two column halves' sums make one sum, the stacked rows split into
  experts and ranks, and the scaling moves out of the sum.
-/
module

public import proofs.«01_k».proof.Proof.Block
public import proofs.«01_k».proof.Proof.Spec
public import Mathlib.Logic.Equiv.Fin.Basic

@[expose] public section

noncomputable section

namespace Cert.Arrow

open Cert.KernelIdeal Cert.KernelIdeal.Gen Idealize.ShloMosaic Idealize.ShloMosaic.ValueIdx

/-- Column `k` of the left half. -/
abbrev leftCol (k : Fin 1024) : Fin 2048 := ⟨k.val, by omega⟩
/-- Column `k` of the right half. -/
abbrev rightCol (k : Fin 1024) : Fin 2048 := ⟨1024 + k.val, by omega⟩

/-- A sum over the columns is the sum over the left half and the sum over the right half. -/
theorem sum_halves (f : Fin 2048 → ℝ) : ∑ k, f k = (∑ k, f (leftCol k)) + ∑ k, f (rightCol k) :=
  Fin.sum_univ_add (a := 1024) (b := 1024) f

/-- The stacked weights: the experts' down projections, then the prototypes. -/
def stacked (A : Fin 8 → Fin 16 → Fin 2048 → ℝ) (P : Fin 8 → Fin 2048 → ℝ) (q : Fin 136) (f : Fin 2048) : ℝ :=
  if h : q.val < 128 then A ⟨q.val / 16, by omega⟩ ⟨q.val % 16, by omega⟩ f else P ⟨q.val - 128, by omega⟩ f

/-- The rank that a stacked row stands for. -/
def rank (q : Fin 128) : Fin 16 := ⟨q.val % 16, by omega⟩

/-- A sum over stacked rows is a sum over experts and ranks. -/
theorem sum_stacked (g : Fin 8 → Fin 16 → ℝ) : ∑ q : Fin 128, g (expert q) (rank q) = ∑ e, ∑ r, g e r := by
  rw [← Fintype.sum_prod_type' (f := g), ← Equiv.sum_comp (finProdFinEquiv (m := 8) (n := 16)) (fun q : Fin 128 => g (expert q) (rank q))]
  refine Finset.sum_congr rfl fun x _ => ?_
  obtain ⟨e, r⟩ := x
  have he : expert (finProdFinEquiv (e, r)) = e := Fin.ext (by
    show (r.val + 16 * e.val) / 16 = e.val
    have := r.isLt; omega)
  have hr : rank (finProdFinEquiv (e, r)) = r := Fin.ext (by
    show (r.val + 16 * e.val) % 16 = r.val
    have := r.isLt; omega)
  show g (expert (finProdFinEquiv (e, r))) (rank (finProdFinEquiv (e, r))) = g e r
  rw [he, hr]

variable (X : Fin 2048 → Fin 2048 → ℝ) (A : Fin 8 → Fin 16 → Fin 2048 → ℝ) (B : Fin 8 → Fin 2048 → Fin 16 → ℝ) (P : Fin 8 → Fin 2048 → ℝ) (c : ℝ)

/-- The kernel's sum over stacked rows is the layer's sum. -/
theorem sum_eq_layer (t o : Fin 2048) :
    ∑ q : Fin 128, down X A t (expert q) (rank q) * (c * coeff (sim X P t) (expert q)) * B (expert q) o (rank q) = layer X A B P c t o := by
  rw [sum_stacked fun e r => down X A t e r * (c * coeff (sim X P t) e) * B e o r]
  unfold layer
  rw [Finset.mul_sum]
  refine Finset.sum_congr rfl fun e _ => ?_
  rw [Finset.mul_sum, Finset.mul_sum]
  refine Finset.sum_congr rfl fun r _ => ?_
  ring

/-- A half block over finite inputs, its row `p` token `t`. -/
theorem half_value (xl : Vec Ideal S256x1024 .f32) (wl : Vec Ideal S136x1024 .f32) (xr : Vec Ideal S256x1024 .f32) (wr : Vec Ideal S136x1024 .f32)
    (b : Vec Ideal S128x2048 .f32) (s : Vec Ideal S1x1 .f32) (p : Fin 256) (t o : Fin 2048)
    (hxl : ∀ k, xl (ix2 p k) = ((X t (leftCol k) : ℝ) : EReal)) (hxr : ∀ k, xr (ix2 p k) = ((X t (rightCol k) : ℝ) : EReal))
    (hwl : ∀ q k, wl (ix2 q k) = ((stacked A P q (leftCol k) : ℝ) : EReal)) (hwr : ∀ q k, wr (ix2 q k) = ((stacked A P q (rightCol k) : ℝ) : EReal))
    (hb : ∀ q : Fin 128, b (ix2 q o) = ((B (expert q) o (rank q) : ℝ) : EReal)) (hs : s (ix2 (0 : Fin 1) (0 : Fin 1)) = ((c : ℝ) : EReal)) :
    half xl wl xr wr b s (ix2 p o) = ((layer X A B P c t o : ℝ) : EReal) := by
  have hzz : ∀ q : Fin 136, project xl wl xr wr (ix2 p q) = ((∑ f, X t f * stacked A P q f : ℝ) : EReal) := fun q => by
    rw [project_at, Finset.sum_congr rfl fun k _ => by rw [hxl, hwl, ← EReal.coe_mul],
      Finset.sum_congr (s₁ := (Finset.univ : Finset (Fin 1024))) (f := fun k => xr (ix2 p k) * wr (ix2 q k)) rfl fun k _ => by rw [hxr, hwr, ← EReal.coe_mul],
      coe_sum, coe_sum, ← EReal.coe_add, sum_halves]
  have hσ : scores (sims (project xl wl xr wr)) p = up (sim X P t) := by
    funext e
    show sims (project xl wl xr wr) (ix2 p e) = _
    rw [sims_at, hzz, ← EReal.coe_neg, ← EReal.coe_strictMono.monotone.map_max]
    unfold up sim
    refine congrArg _ ?_
    show |_| = |_|
    refine congrArg _ (Finset.sum_congr rfl fun f _ => ?_)
    unfold stacked
    rw [dif_neg (by show ¬ 128 + e.val < 128; omega)]
    refine congrArg (X t f * ·) (congrArg (P · f) (Fin.ext ?_))
    show 128 + e.val - 128 = e.val
    omega
  have hz : ∀ q : Fin 128, downs (project xl wl xr wr) (ix2 p q) = ((down X A t (expert q) (rank q) : ℝ) : EReal) := fun q => by
    rw [downs_at, hzz]
    refine congrArg _ (Finset.sum_congr rfl fun f _ => ?_)
    unfold stacked
    rw [dif_pos q.isLt]
    rfl
  have hsc : k0_pay6 s = ((c : ℝ) : EReal) := by
    rw [← hs]
    unfold k0_pay6 extractAt
    exact congrArg s (funext fun a => Fin.ext (by match a with | ⟨0, _⟩ => rfl | ⟨1, _⟩ => rfl))
  unfold half
  rw [hsc, mix_at c _ _ b p o _ hσ _ _ hz hb]
  exact congrArg _ (sum_eq_layer X A B P c t o)

end Cert.Arrow

end
-- ==== Proof.Point.lean ====
/-
  What one grid point stores.  The first point fills the scratch with the stacked weights and every point reads them back; each point stores two
  halves of its block, and both are the half block on their own rows.
-/
module

public import proofs.«01_k».proof.Proof.HalfValue
public import proofs.«01_k».proof.Proof.Gen.KernelIdeal.Frame

@[expose] public section

noncomputable section

namespace Cert.Arrow

open Cert.KernelIdeal Cert.KernelIdeal.Gen Idealize.ShloMosaic Idealize.ShloMosaic.ValueIdx
open Idealize.ShloMosaic.TcCoe

/-- The scratch after the first point: the flattened down projections over the prototypes. -/
def scratch (a : Vec Ideal S128x2048 .f32) (p : Vec Ideal S8x2048 .f32) : Vec Ideal S136x2048 .f32 := fun y =>
  if h : (y 0).val < 128 then a (ix2 (⟨(y 0).val, h⟩ : Fin 128) (y 1))
  else p (ix2 (⟨(y 0).val - 128, by have : (y 0).val < 136 := (y 0).isLt; omega⟩ : Fin 8) (y 1))

/-- The half block on rows `0 .. 255` of a tile. -/
def upper (x0 x1 : Vec Ideal S512x1024 .f32) (w : Vec Ideal S136x2048 .f32) (b : Vec Ideal S128x2048 .f32) (s : Vec Ideal S1x1 .f32) : FVec Ideal S256x2048 .f32 :=
  half (View.ld x0 (Rect.unit ![0, 0] S256x1024.size inb_S512x1024_S256x1024_0_0)) (View.ld w (Rect.unit ![0, 0] S136x1024.size inb_S136x2048_S136x1024_0_0))
    (View.ld x1 (Rect.unit ![0, 0] S256x1024.size inb_S512x1024_S256x1024_0_0)) (View.ld w (Rect.unit ![0, 1024] S136x1024.size inb_S136x2048_S136x1024_0_1024)) b s

/-- The half block on rows `256 .. 511` of a tile. -/
def lower (x0 x1 : Vec Ideal S512x1024 .f32) (w : Vec Ideal S136x2048 .f32) (b : Vec Ideal S128x2048 .f32) (s : Vec Ideal S1x1 .f32) : FVec Ideal S256x2048 .f32 :=
  half (View.ld x0 (Rect.unit ![256, 0] S256x1024.size inb_S512x1024_S256x1024_256_0)) (View.ld w (Rect.unit ![0, 0] S136x1024.size inb_S136x2048_S136x1024_0_0))
    (View.ld x1 (Rect.unit ![256, 0] S256x1024.size inb_S512x1024_S256x1024_256_0)) (View.ld w (Rect.unit ![0, 1024] S136x1024.size inb_S136x2048_S136x1024_0_1024)) b s

/-- The two stores of a point, newest first. -/
def stores (x0 x1 : Vec Ideal S512x1024 .f32) (w : Vec Ideal S136x2048 .f32) (b : Vec Ideal S128x2048 .f32) (s : Vec Ideal S1x1 .f32) :
    List (View.Piece (Elt Ideal) S512x2048 .f32) :=
  [⟨Rect.unit ![256, 0] S256x2048.size inb_S512x2048_S256x2048_256_0, lower x0 x1 w b s⟩,
    ⟨Rect.unit ![0, 0] S256x2048.size inb_S512x2048_S256x2048_0_0, upper x0 x1 w b s⟩]

/-- The tile that a point's two stores leave. -/
def tile (x0 x1 : Vec Ideal S512x1024 .f32) (w : Vec Ideal S136x2048 .f32) (b : Vec Ideal S128x2048 .f32) (s : Vec Ideal S1x1 .f32) : Vec Ideal S512x2048 .f32 :=
  fun y => if h : (y 0).val < 256 then upper x0 x1 w b s (ix2 (⟨(y 0).val, h⟩ : Fin 256) (y 1))
    else lower x0 x1 w b s (ix2 (⟨(y 0).val - 256, by have : (y 0).val < 512 := (y 0).isLt; omega⟩ : Fin 256) (y 1))

/-- The two stores, read back through any buffer, are the tile. -/
theorem read_stores (v : View sig .tc .vmem S512x2048 .f32) (f : v.ty.Contents (Elt Ideal)) (x0 x1 : Vec Ideal S512x1024 .f32)
    (w : Vec Ideal S136x2048 .f32) (b : Vec Ideal S128x2048 .f32) (s : Vec Ideal S1x1 .f32) :
    v.read (Elt Ideal) (v.writes (Elt Ideal) f (stores x0 x1 w b s)) = tile x0 x1 w b s := by
  funext y
  refine View.read_writes_apply_of_pieces v f (tile x0 x1 w b s) _ ?_ y ?_
  · intro q hq
    rcases List.mem_cons.mp hq with rfl | hq
    · intro x
      show lower x0 x1 w b s x = _
      unfold tile
      rw [dif_neg (by show ¬ 256 + 1 * (x 0).val < 256; omega)]
      refine congrArg (lower x0 x1 w b s) (funext fun a => Fin.ext ?_)
      match a with
      | ⟨0, _⟩ => show (x 0).val = 256 + 1 * (x 0).val - 256; omega
      | ⟨1, _⟩ => show (x 1).val = 0 + 1 * (x 1).val; omega
    · obtain rfl := List.mem_singleton.mp hq
      intro x
      have hx : (x 0).val < 256 := (x 0).isLt
      show upper x0 x1 w b s x = _
      unfold tile
      rw [dif_pos (by show 0 + 1 * (x 0).val < 256; omega)]
      refine congrArg (upper x0 x1 w b s) (funext fun a => Fin.ext ?_)
      match a with
      | ⟨0, _⟩ => show (x 0).val = 0 + 1 * (x 0).val; omega
      | ⟨1, _⟩ => show (x 1).val = 0 + 1 * (x 1).val; omega
  · have h0 : (y 0).val < 512 := (y 0).isLt
    have h1 : (y 1).val < 2048 := (y 1).isLt
    by_cases h : (y 0).val < 256
    · refine ⟨_, List.mem_cons_of_mem _ List.mem_cons_self, (Rect.mem_set_unit (inb := inb_S512x2048_S256x2048_0_0)).mpr fun a => ?_⟩
      match a with
      | ⟨0, _⟩ => exact ⟨Nat.zero_le _, by show (y 0).val < 0 + 256; omega⟩
      | ⟨1, _⟩ => exact ⟨Nat.zero_le _, by show (y 1).val < 0 + 2048; omega⟩
    · refine ⟨_, List.mem_cons_self, (Rect.mem_set_unit (inb := inb_S512x2048_S256x2048_256_0)).mpr fun a => ?_⟩
      match a with
      | ⟨0, _⟩ => exact ⟨by show 256 ≤ (y 0).val; omega, by show (y 0).val < 256 + 256; omega⟩
      | ⟨1, _⟩ => exact ⟨Nat.zero_le _, by show (y 1).val < 0 + 2048; omega⟩

/-- A load of a buffer that holds `x` reads `x` through the load's rectangle. -/
theorem load_eq {s : Shape} {e : EltTy} (M : Memref sig .tc .vmem s e) (hM : M.IsWhole) (x : Vec Ideal s e) (r : Rect s) :
    View.readAt (Elt Ideal) M.view r.toLoadRect (hM.unread x) = View.ld x r :=
  (View.readAt_eq_ld M.view (hM.unread x) r).trans (congrArg (fun z => View.ld z r) (hM.read_unread x))

/-- A load of the whole of a matrix that holds `x` reads `x`. -/
theorem load_whole {d : Fin 2 → ℕ} {e : EltTy} (M : Memref sig .tc .vmem ⟨2, d⟩ e) (hM : M.IsWhole) (x : Vec Ideal ⟨2, d⟩ e)
    (inb : ∀ a, (![0, 0] : Fin 2 → ℕ) a + d a ≤ d a) :
    View.readAt (Elt Ideal) M.view (Rect.unit (s := ⟨2, d⟩) ![0, 0] d inb).toLoadRect (hM.unread x) = x :=
  (load_eq M hM x _).trans (View.ld_unit_zero (S := ⟨2, d⟩) (by funext a; fin_cases a <;> rfl) inb x)

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S8x2048 .f32) (harg3 : arg3.IsWhole)
  (arg4 : Memref sig .tc .vmem S128x2048 .f32) (harg4 : arg4.IsWhole) (arg5 : Memref sig .tc .vmem S128x2048 .f32) (harg5 : arg5.IsWhole)
  (arg6 : Memref sig .tc .vmem S1x1 .f32) (harg6 : arg6.IsWhole) (arg7 : Memref sig .tc .vmem S512x2048 .f32) (harg7 : arg7.IsWhole)
  (arg8 : Memref sig .tc .vmem S136x2048 .f32) (harg8 : arg8.IsWhole)
  (x0 x1 : Vec Ideal S512x1024 .f32) (x2 : Vec Ideal S8x2048 .f32) (x3 x4 : Vec Ideal S128x2048 .f32) (x5 : Vec Ideal S1x1 .f32)
  (w : Vec Ideal S136x2048 .f32)

/-- A later point's stores, the scratch holding `w`. -/
theorem stores_later (hc0 : ¬ cond0_0 i) :
    (kernelRun0_B (F := Ideal) c i arg1 harg1 arg2 harg2 arg3 harg3 arg4 harg4 arg5 harg5 arg6 harg6 arg7 harg7 arg8 harg8 hc0 x0 x1 x2 x3 x4 x5 w).1
      = stores x0 x1 w x4 x5 := by
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6,
    kernelRun0_B.sl.r_7, kernelRun0_B.sl.r_8, kernelRun0_B.sl.r_9, kernelRun0_B.sl.r_10, kernelRun0_B.sl.cst]
  rw [load_whole arg5 harg5 x4 inb_S128x2048_S128x2048_0_0, load_whole arg6 harg6 x5 inb_S1x1_S1x1_0_0]
  simp only [load_eq]
  rw [first_half, second_half]
  rfl

/-- The scratch's two stores at the first point. -/
theorem scratch_stores :
    View.canon (kernelRun0_A.sl.HS0_2 (F := Ideal) c arg3 harg3 arg4 harg4 x2 x3) = scratch x3 x2 := by
  funext y
  unfold kernelRun0_A.sl.HS0_2
  refine View.canon_apply_of_pieces (scratch x3 x2) _ ?_ y ?_
  · intro q hq
    rcases List.mem_cons.mp hq with rfl | hq
    · intro x
      show k0_pay3 (View.readAt (Elt Ideal) arg3.view (Rect.unit ![0, 0] S8x2048.size inb_S8x2048_S8x2048_0_0).toLoadRect (harg3.unread x2)) x = _
      rw [load_whole arg3 harg3 x2 inb_S8x2048_S8x2048_0_0]
      have e : k0_pay3 x2 = x2 := shapeCast_same _ _
      rw [e]
      unfold scratch
      rw [dif_neg (by show ¬ 128 + 1 * (x 0).val < 128; omega)]
      refine congrArg x2 (funext fun a => Fin.ext ?_)
      match a with
      | ⟨0, _⟩ => show (x 0).val = 128 + 1 * (x 0).val - 128; omega
      | ⟨1, _⟩ => show (x 1).val = 0 + 1 * (x 1).val; omega
    · obtain rfl := List.mem_singleton.mp hq
      intro x
      show k0_pay2 (View.readAt (Elt Ideal) arg4.view (Rect.unit ![0, 0] S128x2048.size inb_S128x2048_S128x2048_0_0).toLoadRect (harg4.unread x3)) x = _
      rw [load_whole arg4 harg4 x3 inb_S128x2048_S128x2048_0_0]
      have e : k0_pay2 x3 = x3 := (shapeCast_same _ _).trans (shapeCast_same _ _)
      rw [e]
      have hx : (x 0).val < 128 := (x 0).isLt
      unfold scratch
      rw [dif_pos (by show 0 + 1 * (x 0).val < 128; omega)]
      refine congrArg x3 (funext fun a => Fin.ext ?_)
      match a with
      | ⟨0, _⟩ => show (x 0).val = 0 + 1 * (x 0).val; omega
      | ⟨1, _⟩ => show (x 1).val = 0 + 1 * (x 1).val; omega
  · have h0 : (y 0).val < 136 := (y 0).isLt
    have h1 : (y 1).val < 2048 := (y 1).isLt
    by_cases h : (y 0).val < 128
    · refine ⟨_, List.mem_cons_of_mem _ List.mem_cons_self, (Rect.mem_set_unit (inb := inb_S136x2048_S128x2048_0_0)).mpr fun a => ?_⟩
      match a with
      | ⟨0, _⟩ => exact ⟨Nat.zero_le _, by show (y 0).val < 0 + 128; omega⟩
      | ⟨1, _⟩ => exact ⟨Nat.zero_le _, by show (y 1).val < 0 + 2048; omega⟩
    · refine ⟨_, List.mem_cons_self, (Rect.mem_set_unit (inb := inb_S136x2048_S8x2048_128_0)).mpr fun a => ?_⟩
      match a with
      | ⟨0, _⟩ => exact ⟨by show 128 ≤ (y 0).val; omega, by show (y 0).val < 128 + 8; omega⟩
      | ⟨1, _⟩ => exact ⟨Nat.zero_le _, by show (y 1).val < 0 + 2048; omega⟩

/-- The first point's stores. -/
theorem stores_first (hc0 : cond0_0 i) :
    (kernelRun0_A (F := Ideal) c i arg1 harg1 arg2 harg2 arg3 harg3 arg4 harg4 arg5 harg5 arg6 harg6 arg7 harg7 arg8 harg8 hc0 x0 x1 x2 x3 x4 x5).1
      = stores x0 x1 (scratch x3 x2) x4 x5 := by
  have hl : kernelRun0_A.sl.v41 (F := Ideal) c arg3 harg3 arg4 harg4 arg8 x2 x3
      = View.ld (scratch x3 x2) (Rect.unit ![0, 0] S136x1024.size inb_S136x2048_S136x1024_0_0) := by
    unfold kernelRun0_A.sl.v41
    rw [View.readCov_eq_canon', scratch_stores]
  have hr : kernelRun0_A.sl.v45 (F := Ideal) c arg3 harg3 arg4 harg4 arg8 x2 x3
      = View.ld (scratch x3 x2) (Rect.unit ![0, 1024] S136x1024.size inb_S136x2048_S136x1024_0_1024) := by
    unfold kernelRun0_A.sl.v45
    rw [View.readCov_eq_canon', scratch_stores]
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6,
    kernelRun0_A.sl.r_7, kernelRun0_A.sl.r_8, kernelRun0_A.sl.r_9, kernelRun0_A.sl.cst, hl, hr]
  rw [load_whole arg5 harg5 x4 inb_S128x2048_S128x2048_0_0, load_whole arg6 harg6 x5 inb_S1x1_S1x1_0_0]
  simp only [load_eq]
  rw [first_half, second_half]
  rfl

/-- What the first point leaves in its output block. -/
theorem out_first (hc0 : cond0_0 i) :
    out0_A_6 (F := Ideal) c i arg1 harg1 arg2 harg2 arg3 harg3 arg4 harg4 arg5 harg5 arg6 harg6 arg7 harg7 arg8 harg8 hc0 x0 x1 x2 x3 x4 x5
      = tile x0 x1 (scratch x3 x2) x4 x5 := by
  unfold out0_A_6
  rw [stores_first, read_stores]

/-- What a later point leaves in its output block. -/
theorem out_later (hc0 : ¬ cond0_0 i) :
    out0_B_6 (F := Ideal) c i arg1 harg1 arg2 harg2 arg3 harg3 arg4 harg4 arg5 harg5 arg6 harg6 arg7 harg7 arg8 harg8 hc0 x0 x1 x2 x3 x4 x5 w
      = tile x0 x1 w x4 x5 := by
  unfold out0_B_6
  rw [stores_later, read_stores]

/-- What the first point leaves in the scratch. -/
theorem scratch_first (hc0 : cond0_0 i) :
    sout0_A_0 (F := Ideal) c i arg1 harg1 arg2 harg2 arg3 harg3 arg4 harg4 arg5 harg5 arg6 harg6 arg7 harg7 arg8 harg8 hc0 x0 x1 x2 x3 x4 x5
      = scratch x3 x2 := by
  unfold sout0_A_0
  rw [View.read_writes_eq_canon _ _ _ (scover0_A_0 (F := Ideal) c i arg1 harg1 arg2 harg2 arg3 harg3 arg4 harg4 arg5 harg5 arg6 harg6 arg7 harg7 arg8 harg8 hc0 x0 x1 x2 x3 x4 x5)]
  exact scratch_stores c arg3 harg3 arg4 harg4 x2 x3

end Cert.Arrow

end
-- ==== Proof.TileValue.lean ====
/-
  A tile over finite inputs: row `p` of it, token `tk p`, holds the layer's function, and the scratch holds the stacked weights.
-/
module

public import proofs.«01_k».proof.Proof.Point

@[expose] public section

noncomputable section

namespace Cert.Arrow

open Cert.KernelIdeal Cert.KernelIdeal.Gen Idealize.ShloMosaic Idealize.ShloMosaic.ValueIdx

variable (X : Fin 2048 → Fin 2048 → ℝ) (A : Fin 8 → Fin 16 → Fin 2048 → ℝ) (B : Fin 8 → Fin 2048 → Fin 16 → ℝ) (P : Fin 8 → Fin 2048 → ℝ) (c : ℝ)

/-- The scratch filled from the two weight arrays is the stacked weights. -/
theorem scratch_value (a : Vec Ideal S128x2048 .f32) (p : Vec Ideal S8x2048 .f32)
    (ha : ∀ (q : Fin 128) f, a (ix2 q f) = ((A (expert q) (rank q) f : ℝ) : EReal)) (hp : ∀ e f, p (ix2 e f) = ((P e f : ℝ) : EReal)) (q : Fin 136) (f : Fin 2048) :
    scratch a p (ix2 q f) = ((stacked A P q f : ℝ) : EReal) := by
  unfold scratch stacked
  by_cases h : q.val < 128
  · rw [dif_pos h, dif_pos h]
    exact ha ⟨q.val, h⟩ f
  · rw [dif_neg h, dif_neg h]
    exact hp ⟨q.val - 128, _⟩ f

/-- A load through a unit-stride rectangle of a matrix reads the matrix at the offsets plus the index. -/
theorem ld_at {m n k l : ℕ} (x : Vec Ideal ⟨2, ![m, n]⟩ .f32) (o o' : ℕ) (inb : ∀ a, (![o, o'] : Fin 2 → ℕ) a + (⟨2, ![k, l]⟩ : Shape).size a ≤ (⟨2, ![m, n]⟩ : Shape).size a)
    (i : Fin k) (j : Fin l) (i' : Fin m) (j' : Fin n) (hi : i'.val = o + i.val) (hj : j'.val = o' + j.val) :
    View.ld x (Rect.unit (s := (⟨2, ![m, n]⟩ : Shape)) ![o, o'] (⟨2, ![k, l]⟩ : Shape).size inb) (ix2 i j) = x (ix2 i' j') :=
  congrArg x (funext fun a => Fin.ext (by
    match a with
    | ⟨0, _⟩ => show o + 1 * i.val = i'.val; omega
    | ⟨1, _⟩ => show o' + 1 * j.val = j'.val; omega))

/-- A tile over finite inputs. -/
theorem tile_value (x0 x1 : Vec Ideal S512x1024 .f32) (w : Vec Ideal S136x2048 .f32) (b : Vec Ideal S128x2048 .f32) (s : Vec Ideal S1x1 .f32)
    (p : Fin 512) (t o : Fin 2048)
    (h0 : ∀ k, x0 (ix2 p k) = ((X t (leftCol k) : ℝ) : EReal)) (h1 : ∀ k, x1 (ix2 p k) = ((X t (rightCol k) : ℝ) : EReal))
    (hw : ∀ q f, w (ix2 q f) = ((stacked A P q f : ℝ) : EReal))
    (hb : ∀ q : Fin 128, b (ix2 q o) = ((B (expert q) o (rank q) : ℝ) : EReal)) (hs : s (ix2 (0 : Fin 1) (0 : Fin 1)) = ((c : ℝ) : EReal)) :
    tile x0 x1 w b s (ix2 p o) = ((layer X A B P c t o : ℝ) : EReal) := by
  have hl : ∀ (q : Fin 136) (k : Fin 1024), View.ld w (Rect.unit ![0, 0] S136x1024.size inb_S136x2048_S136x1024_0_0) (ix2 q k) = ((stacked A P q (leftCol k) : ℝ) : EReal) :=
    fun q k => (ld_at w 0 0 inb_S136x2048_S136x1024_0_0 q k q (leftCol k) (Nat.zero_add _).symm (Nat.zero_add _).symm).trans (hw q _)
  have hr : ∀ (q : Fin 136) (k : Fin 1024), View.ld w (Rect.unit ![0, 1024] S136x1024.size inb_S136x2048_S136x1024_0_1024) (ix2 q k) = ((stacked A P q (rightCol k) : ℝ) : EReal) :=
    fun q k => (ld_at w 0 1024 inb_S136x2048_S136x1024_0_1024 q k q (rightCol k) (Nat.zero_add _).symm rfl).trans (hw q _)
  unfold tile
  by_cases h : p.val < 256
  · rw [dif_pos h]
    exact half_value X A B P c _ _ _ _ b s ⟨p.val, h⟩ t o
      (fun k => (ld_at x0 0 0 inb_S512x1024_S256x1024_0_0 _ k p k (Nat.zero_add _).symm (Nat.zero_add _).symm).trans (h0 k))
      (fun k => (ld_at x1 0 0 inb_S512x1024_S256x1024_0_0 _ k p k (Nat.zero_add _).symm (Nat.zero_add _).symm).trans (h1 k)) hl hr hb hs
  · rw [dif_neg h]
    have hp : p.val = 256 + (p.val - 256) := by omega
    exact half_value X A B P c _ _ _ _ b s ⟨p.val - 256, by omega⟩ t o
      (fun k => (ld_at x0 256 0 inb_S512x1024_S256x1024_256_0 _ k p k hp (Nat.zero_add _).symm).trans (h0 k))
      (fun k => (ld_at x1 256 0 inb_S512x1024_S256x1024_256_0 _ k p k hp (Nat.zero_add _).symm).trans (h1 k)) hl hr hb hs

end Cert.Arrow

end
-- ==== Proof.HostArrays.lean ====
/-
  What the arrays hold when the kernel starts: the tokens as a matrix, the down projections' rows stacked, the up projections transposed and
  stacked, the scale as a 1×1 matrix.
-/
module

public import proofs.«01_k».proof.Proof.TileValue

@[expose] public section

noncomputable section

namespace Cert.Arrow

open Cert.KernelIdeal Cert.KernelIdeal.Gen Idealize.ShloMosaic Idealize.ShloMosaic.ValueIdx
open Idealize.ShloMosaic.TcCoe

variable (m : (ℓ : Loc nD τ sig) → Buf (Elt Ideal) ℓ) (c : Dev nD)

/-- Row `t` of the token matrix is token `t`. -/
theorem tokens_at (t f : Fin 2048) :
    V m c main_v0 (ix2 t f) = m ((c : Thread nD τ).loc main_arg0) (ix3 (0 : Fin 1) t f) := by
  have e : V m c main_v0 = shapeCast S2048x2048 (m ((c : Thread nD τ).loc main_arg0)) shapeCasts_S1x2048x2048_S2048x2048 := by
    unfold V V0 hostOps0
    simp only [List.flatten_cons, List.flatten_nil, List.append_nil]
    after_results
    rfl
  rw [e]
  refine shapeCast_apply (s := S1x2048x2048) _ _ _ _ ?_
  rw [Shape.rowMajor_val_two, Shape.rowMajor_val_three]
  show (0 * 2048 + t.val) * 2048 + f.val = t.val * 2048 + f.val
  omega

/-- Stacked row `q` of the down projections. -/
theorem downs_row (q : Fin 128) (f : Fin 2048) :
    V m c main_v1 (ix2 q f) = m ((c : Thread nD τ).loc main_arg1) (ix3 (expert q) (rank q) f) := by
  have e : V m c main_v1 = shapeCast S128x2048 (m ((c : Thread nD τ).loc main_arg1)) shapeCasts_S8x16x2048_S128x2048 := by
    unfold V V0 hostOps0
    simp only [List.flatten_cons, List.flatten_nil, List.append_nil]
    after_results
    rfl
  rw [e]
  refine shapeCast_apply (s := S8x16x2048) _ _ _ _ ?_
  rw [Shape.rowMajor_val_two, Shape.rowMajor_val_three]
  show (q.val / 16 * 16 + q.val % 16) * 2048 + f.val = q.val * 2048 + f.val
  omega

/-- Stacked row `q` of the transposed up projections. -/
theorem ups_row (q : Fin 128) (o : Fin 2048) :
    V m c main_v3 (ix2 q o) = m ((c : Thread nD τ).loc main_arg2) (ix3 (expert q) o (rank q)) := by
  have e : V m c main_v3 = shapeCast S128x2048 (transpose S8x16x2048 [0, 2, 1] (m ((c : Thread nD τ).loc main_arg2)) transposes_S8x2048x16_S8x16x2048_0_2_1)
      shapeCasts_S8x16x2048_S128x2048 := by
    unfold V V0 hostOps0
    simp only [List.flatten_cons, List.flatten_nil, List.append_nil]
    after_results
    rfl
  rw [e]
  refine (shapeCast_apply _ _ _ (ix3 (expert q) (rank q) o) ?_).trans ?_
  · rw [Shape.rowMajor_val_two, Shape.rowMajor_val_three]
    show (q.val / 16 * 16 + q.val % 16) * 2048 + o.val = q.val * 2048 + o.val
    omega
  · refine transpose_apply _ _ _ _ _ ?_
    intro a
    match a with
    | ⟨0, _⟩ => rfl
    | ⟨1, _⟩ => rfl
    | ⟨2, _⟩ => rfl

/-- The scale. -/
theorem scale_at : V m c main_v4 (ix2 (0 : Fin 1) (0 : Fin 1)) = m ((c : Thread nD τ).loc main_arg4) (ix1 (0 : Fin 1)) := by
  have e : V m c main_v4 = shapeCast S1x1 (m ((c : Thread nD τ).loc main_arg4)) shapeCasts_S1_S1x1 := by
    unfold V V0 hostOps0
    simp only [List.flatten_cons, List.flatten_nil, List.append_nil]
    after_results
    rfl
  rw [e]
  refine shapeCast_apply (s := S1) _ _ _ _ ?_
  rw [Shape.rowMajor_val_two, Shape.rowMajor_val_one]
  rfl

end Cert.Arrow

end
-- ==== Proof.KernelArray.lean ====
/-
  What the kernel leaves: the scratch is the stacked weights at every grid point, so each point writes back its 512 rows of the layer's function;
  the four blocks of rows fill the result.
-/
module

public import proofs.«01_k».proof.Proof.HostArrays

@[expose] public section

noncomputable section

namespace Cert.Arrow

open Cert.KernelIdeal Cert.KernelIdeal.Gen Idealize.ShloMosaic Idealize.ShloMosaic.ValueIdx
open Idealize.ShloMosaic.TcCoe
open Idealize.ShloMosaic.Pipeline (Dat)

variable (m : (ℓ : Loc nD τ sig) → Buf (Elt Ideal) ℓ) (c : Dev nD)

/-- Row `p` of grid point `t`'s block. -/
def token (t : Fin cfg0.N) (p : Fin 512) : Fin 2048 :=
  ⟨512 * t.val + p.val, by have : t.val < 4 := lt_of_lt_of_eq t.isLt (show cfg0.N = 4 from N_0); omega⟩

/-- The first window's blocks: the left halves of the rows. -/
theorem left_block (t : Fin cfg0.N) (p : Fin 512) (k : Fin 1024) :
    iblk m c 0 t (ix2 p k) = V m c main_v0 (ix2 (token t p) (leftCol k)) := by
  have e : win0_0.index t 0 * win0_0.size 0 = 512 * t.val ∧ win0_0.index t 1 * win0_0.size 1 = 0 := by
    rcases fin_N0 t with rfl | rfl | rfl | rfl <;> decide +kernel
  show V m c main_v0 ((win0_0.rect t).emb (ix2 p k)) = _
  refine congrArg (V m c main_v0) (funext fun a => Fin.ext ?_)
  refine (Pipeline.Window.rect_emb_val win0_0 t (ix2 p k) a).trans ?_
  match a with
  | ⟨0, _⟩ => show win0_0.index t 0 * win0_0.size 0 + p.val = 512 * t.val + p.val; rw [e.1]
  | ⟨1, _⟩ => show win0_0.index t 1 * win0_0.size 1 + k.val = k.val; rw [e.2, Nat.zero_add]

/-- The second window's blocks: the right halves of the rows. -/
theorem right_block (t : Fin cfg0.N) (p : Fin 512) (k : Fin 1024) :
    iblk m c 1 t (ix2 p k) = V m c main_v0 (ix2 (token t p) (rightCol k)) := by
  have e : win0_1.index t 0 * win0_1.size 0 = 512 * t.val ∧ win0_1.index t 1 * win0_1.size 1 = 1024 := by
    rcases fin_N0 t with rfl | rfl | rfl | rfl <;> decide +kernel
  show V m c main_v0 ((win0_1.rect t).emb (ix2 p k)) = _
  refine congrArg (V m c main_v0) (funext fun a => Fin.ext ?_)
  refine (Pipeline.Window.rect_emb_val win0_1 t (ix2 p k) a).trans ?_
  match a with
  | ⟨0, _⟩ => show win0_1.index t 0 * win0_1.size 0 + p.val = 512 * t.val + p.val; rw [e.1]
  | ⟨1, _⟩ => show win0_1.index t 1 * win0_1.size 1 + k.val = 1024 + k.val; rw [e.2]

/-- The prototypes' window is the whole array. -/
theorem prototypes_block (t : Fin cfg0.N) : iblk m c 2 t = m ((c : Thread nD τ).loc main_arg3) := by
  rw [← V_main_arg3 m c]
  funext y
  show V m c main_arg3 ((win0_2.rect t).emb y) = V m c main_arg3 y
  refine congrArg (V m c main_arg3) (funext fun a => Fin.ext (Pipeline.Window.rect_emb_val_of_index_zero win0_2 t a ?_ y))
  match a with
  | ⟨0, _⟩ => rfl
  | ⟨1, _⟩ => rfl

/-- The down projections' window is the whole array. -/
theorem downs_block (t : Fin cfg0.N) : iblk m c 3 t = V m c main_v1 := by
  funext y
  show V m c main_v1 ((win0_3.rect t).emb y) = V m c main_v1 y
  refine congrArg (V m c main_v1) (funext fun a => Fin.ext (Pipeline.Window.rect_emb_val_of_index_zero win0_3 t a ?_ y))
  match a with
  | ⟨0, _⟩ => rfl
  | ⟨1, _⟩ => rfl

/-- The up projections' window is the whole array. -/
theorem ups_block (t : Fin cfg0.N) : iblk m c 4 t = V m c main_v3 := by
  funext y
  show V m c main_v3 ((win0_4.rect t).emb y) = V m c main_v3 y
  refine congrArg (V m c main_v3) (funext fun a => Fin.ext (Pipeline.Window.rect_emb_val_of_index_zero win0_4 t a ?_ y))
  match a with
  | ⟨0, _⟩ => rfl
  | ⟨1, _⟩ => rfl

/-- The scale's window is the whole array. -/
theorem scale_block (t : Fin cfg0.N) : iblk m c 5 t = V m c main_v4 := by
  funext y
  show V m c main_v4 ((win0_5.rect t).emb y) = V m c main_v4 y
  refine congrArg (V m c main_v4) (funext fun a => Fin.ext (Pipeline.Window.rect_emb_val_of_index_zero win0_5 t a ?_ y))
  match a with
  | ⟨0, _⟩ => rfl
  | ⟨1, _⟩ => rfl

/-- The stacked weights as the first point stores them. -/
abbrev weights : Vec Ideal S136x2048 .f32 := scratch (V m c main_v1) (m ((c : Thread nD τ).loc main_arg3))

/-- The scratch holds the stacked weights after every point. -/
theorem scratch_after : ∀ (n : ℕ) (hn : n < cfg0.N), (outsAt0 m c n hn).2 = weights m c
  | 0, hn => by
    have h := outsAt0_A m c ⟨0, hn⟩ rfl
    rw [show outsAt0 m c 0 hn = _ from h]
    dsimp only
    rw [scratch_first, downs_block, prototypes_block]
  | n + 1, hn => by
    have h4 : n + 1 < 4 := lt_of_lt_of_eq hn (show cfg0.N = 4 from N_0)
    have h := outsAt0_B m c ⟨n + 1, hn⟩ (by show ¬ (n + 1) % 4 = 0; omega)
    rw [show outsAt0 m c (n + 1) hn = _ from h]
    dsimp only
    exact scratch_after n (Nat.lt_of_succ_lt hn)

/-- What point `t` leaves in its output block. -/
theorem block_after (t : Fin cfg0.N) :
    (outsAt0 m c t.val t.isLt).1 = tile (iblk m c 0 t) (iblk m c 1 t) (weights m c) (V m c main_v3) (V m c main_v4) := by
  by_cases h0 : t.val % 4 = 0
  · rw [outsAt0_A m c t h0]
    dsimp only
    rw [out_first, downs_block, prototypes_block, ups_block, scale_block]
  · rw [outsAt0_B m c t h0]
    dsimp only
    rw [out_later, ups_block, scale_block, scratch_after]

variable (X : Fin 2048 → Fin 2048 → ℝ) (A : Fin 8 → Fin 16 → Fin 2048 → ℝ) (B : Fin 8 → Fin 2048 → Fin 16 → ℝ) (P : Fin 8 → Fin 2048 → ℝ) (s : ℝ)

/-- The layer's function as the kernel's result matrix. -/
def result : Buf (Elt Ideal) ((c : Thread nD τ).loc main_v5) :=
  fun y : S2048x2048.Idx => ((layer X A B P s (y 0) (y 1) : ℝ) : EReal)

variable (hX : ∀ t f, m ((c : Thread nD τ).loc main_arg0) (ix3 (0 : Fin 1) t f) = ((X t f : ℝ) : EReal))
  (hA : ∀ e r f, m ((c : Thread nD τ).loc main_arg1) (ix3 e r f) = ((A e r f : ℝ) : EReal))
  (hB : ∀ e o r, m ((c : Thread nD τ).loc main_arg2) (ix3 e o r) = ((B e o r : ℝ) : EReal))
  (hP : ∀ e f, m ((c : Thread nD τ).loc main_arg3) (ix2 e f) = ((P e f : ℝ) : EReal))
  (hs : m ((c : Thread nD τ).loc main_arg4) (ix1 (0 : Fin 1)) = ((s : ℝ) : EReal))

include hX hA hB hP hs

/-- Point `t` writes back its block of rows. -/
theorem flushed_eq (t : Fin cfg0.N) :
    (dats m 0 c).flushed 6 t = (win0_6.blk t).view.read (Elt Ideal) (result c X A B P s) := by
  show (cfg0.win 6).cut (grid0.coords t) ((dats m 0 c).after 6 t) = _
  rw [after0_6, block_after]
  funext y
  have e : win0_6.index t 0 * win0_6.size 0 = 512 * t.val ∧ win0_6.index t 1 * win0_6.size 1 = 0 := by
    rcases fin_N0 t with rfl | rfl | rfl | rfl <;> decide +kernel
  obtain ⟨p, o, rfl⟩ : ∃ (p : Fin 512) (o : Fin 2048), y = ix2 p o :=
    ⟨y 0, y 1, funext fun a => by match a with | ⟨0, _⟩ => rfl | ⟨1, _⟩ => rfl⟩
  have h : tile (iblk m c 0 t) (iblk m c 1 t) (weights m c) (V m c main_v3) (V m c main_v4) (ix2 p o) = ((layer X A B P s (token t p) o : ℝ) : EReal) :=
    tile_value X A B P s _ _ _ _ _ p (token t p) o
      (fun k => (left_block m c t p k).trans ((tokens_at m c _ _).trans (hX _ _)))
      (fun k => (right_block m c t p k).trans ((tokens_at m c _ _).trans (hX _ _)))
      (scratch_value A P _ _ (fun q f => (downs_row m c q f).trans (hA _ _ _)) hP)
      (fun q => (ups_row m c q o).trans (hB _ _ _)) ((scale_at m c).trans hs)
  refine h.trans ?_
  show _ = result c X A B P s ((win0_6.rect t).emb (ix2 p o))
  have he : (win0_6.rect t).emb (ix2 p o) = ix2 (token t p) o := funext fun a => Fin.ext (by
    refine (Pipeline.Window.rect_emb_val win0_6 t (ix2 p o) a).trans ?_
    match a with
    | ⟨0, _⟩ => show win0_6.index t 0 * win0_6.size 0 + p.val = 512 * t.val + p.val; rw [e.1]
    | ⟨1, _⟩ => show win0_6.index t 1 * win0_6.size 1 + o.val = o.val; rw [e.2, Nat.zero_add])
  rw [he]
  rfl

omit hX hA hB hP hs in
/-- The four blocks fill the result matrix. -/
theorem blocks_cover (i : S2048x2048.Idx) : ∃ t : Fin cfg0.N, (cfg0.win 6).flush t = true ∧ i ∈ ((cfg0.win 6).blk t).view.set := by
  have h0 : (i 0 : Nat) < 2048 := (i 0).isLt
  have h1 : (i 1 : Nat) < 2048 := (i 1).isLt
  obtain ⟨t, ht⟩ : ∃ t : Fin cfg0.N, t.val = (i 0 : Nat) / 512 := ⟨⟨(i 0 : Nat) / 512, by rw [show cfg0.N = 4 from N_0]; omega⟩, rfl⟩
  refine ⟨t, flush0_6 t, ?_⟩
  have e : win0_6.index t 0 * win0_6.size 0 = 512 * t.val ∧ win0_6.xsize (grid0.coords t) 0 = 512
      ∧ win0_6.index t 1 * win0_6.size 1 = 0 ∧ win0_6.xsize (grid0.coords t) 1 = 2048 := by
    rcases fin_N0 t with rfl | rfl | rfl | rfl <;> decide +kernel
  show i ∈ ((View.whole main_v5).slice (win0_6.rect t)).set
  rw [View.set_slice_whole, Rect.mem_set_unit]
  intro a
  match a with
  | ⟨0, _⟩ =>
    show win0_6.index t 0 * win0_6.size 0 ≤ (i 0 : Nat) ∧ (i 0 : Nat) < win0_6.index t 0 * win0_6.size 0 + win0_6.xsize (grid0.coords t) 0
    rw [e.1, e.2.1]
    omega
  | ⟨1, _⟩ =>
    show win0_6.index t 1 * win0_6.size 1 ≤ (i 1 : Nat) ∧ (i 1 : Nat) < win0_6.index t 1 * win0_6.size 1 + win0_6.xsize (grid0.coords t) 1
    rw [e.2.2.1, e.2.2.2]
    omega

/-- The result matrix after the kernel. -/
theorem final : (dats m 0 c).arrAt 6 cfg0.N = result c X A B P s :=
  (dats m 0 c).arrAt_eq_of_cover 6 (result c X A B P s) (fun t _ => flushed_eq m c X A B P s hX hA hB hP hs t) blocks_cover

/-- The program's result: the result matrix with its leading unit axis. -/
theorem result_at (t o : Fin 2048) :
    Pipeline.afterTail₀ cfgs (dats m) 0 (V0 m) [hostOps1] c main_v6 (ix3 (0 : Fin 1) t o) = ((layer X A B P s t o : ℝ) : EReal) := by
  have hv : Pipeline.withArrays (cfgs 0).spec c (V0 m c) (fun w => (dats m 0 c).arrAt w (cfgs 0).N) (Proc.devRef .tc main_v5) = result c X A B P s :=
    ((dats m 0 c).withArrays_arrAt sharedIn0 (V0 m c) (A_eq m c) 6).trans (final m c X A B P s hX hA hB hP hs)
  have e : Pipeline.afterTail₀ cfgs (dats m) 0 (V0 m) [hostOps1] c main_v6
      = shapeCast S1x2048x2048 (result c X A B P s) shapeCasts_S2048x2048_S1x2048x2048 := by
    unfold Pipeline.afterTail₀ hostOps1
    simp only [List.flatten_cons, List.flatten_nil, List.append_nil]
    after_results
    exact congrArg (fun z => shapeCast S1x2048x2048 z shapeCasts_S2048x2048_S1x2048x2048) hv
  rw [e]
  refine (shapeCast_apply (s := S2048x2048) _ _ _ (ix2 t o) ?_).trans rfl
  rw [Shape.rowMajor_val_two, Shape.rowMajor_val_three]
  show t.val * 2048 + o.val = (0 * 2048 + t.val) * 2048 + o.val
  omega

end Cert.Arrow

end
-- ==== Proof.RefScore.lean ====
/-
  The reference's scores and coefficients at one token: the two greatest of its eight similarities, put back at their places over `-inf`, and the
  softmax of that row.
-/
module

public import proofs.«01_k».proof.Proof.Coeff
public import proofs.«01_k».proof.Proof.Gen.ReferenceIdeal.Read
public import Idealize.ShloMosaic.Lib.ScatterToDense.RefScatter

@[expose] public section

noncomputable section

namespace Cert.Arrow

open Cert.ReferenceIdeal Cert.ReferenceIdeal.Gen Cert.ReferenceIdeal.Read Idealize.ShloMosaic Idealize.ShloMosaic.ValueIdx
  Idealize.ShloMosaic.ScatterToDense

variable (x0 : (⟨S1x2048x2048, .f32⟩ : BufTy).Contents (Elt Ideal)) (x3 : (⟨S8x2048, .f32⟩ : BufTy).Contents (Elt Ideal))

/-- Token `t`'s eight similarities. -/
def row (t : Fin 2048) : Fin 8 → EReal := fun e => val_main_v3 (F := Ideal) x0 x3 (ix2 t e)

theorem row_ne_bot (t : Fin 2048) (e : Fin 8) : row x0 x3 t e ≠ ⊥ := by
  show max (val_main_v2 (F := Ideal) x0 x3 (ix2 t e)) (-(val_main_v2 (F := Ideal) x0 x3 (ix2 t e))) ≠ ⊥
  generalize (val_main_v2 (F := Ideal) x0 x3 (ix2 t e) : EReal) = a
  intro h
  rw [max_eq_bot] at h
  rw [h.1] at h
  exact absurd h.2 (by simp)

/-- The two places, first then second. -/
def place (t : Fin 2048) (i : Fin 2) : Fin 8 := ![first (row x0 x3 t), second (row x0 x3 t)] i

theorem along_ix2 (t : Fin 2048) (e k : Fin 8) : Shape.Idx.along (s := S2048x8) (ix2 t e) 1 k = ix2 t k := by
  funext a
  match a with
  | ⟨0, _⟩ => rfl
  | ⟨1, _⟩ => rfl

theorem sorted_place (t : Fin 2048) (i : Fin 2) (e : Fin 8) (he : e = i.castLE (by decide)) :
    sortedFrom (fun k k' : Fin 8 => FloatOps.cmpfTotal (F := Ideal) (φ := .f32) .gt
      (val_main_v3 (F := Ideal) x0 x3 (Shape.Idx.along (s := S2048x8) (ix2 t e) 1 k))
      (val_main_v3 (F := Ideal) x0 x3 (Shape.Idx.along (s := S2048x8) (ix2 t e) 1 k')) == 1#1) e = place x0 x3 t i := by
  have h : (fun k k' : Fin 8 => FloatOps.cmpfTotal (F := Ideal) (φ := .f32) .gt
      (val_main_v3 (F := Ideal) x0 x3 (Shape.Idx.along (s := S2048x8) (ix2 t e) 1 k))
      (val_main_v3 (F := Ideal) x0 x3 (Shape.Idx.along (s := S2048x8) (ix2 t e) 1 k')) == 1#1)
      = fun k k' => decide (row x0 x3 t k' < row x0 x3 t k) := by
    funext k k'
    rw [along_ix2, along_ix2]
    show (BitVec.ofBool (decide (row x0 x3 t k' < row x0 x3 t k)) == 1#1) = _
    cases decide (row x0 x3 t k' < row x0 x3 t k) <;> rfl
  rw [h, he]
  exact sortedFrom_first_second (row_ne_bot x0 x3 t) i

theorem values_at (t : Fin 2048) (i : Fin 2) :
    val_main_values (F := Ideal) x0 x3 (ix2 t i) = row x0 x3 t (place x0 x3 t i) := by
  unfold val_main_values Host.topK
  dsimp only
  rw [extractStridedSlice_apply _ _ _ (ix2 t i) (ix2 t (i.castLE (by decide) : Fin 8)) (fun a => by
    match a with
    | ⟨0, _⟩ => simp [ix2]
    | ⟨1, _⟩ => simp [ix2])]
  unfold Host.sort2
  rw [dif_pos (by decide)]
  have h := sorted_place x0 x3 t i (i.castLE (by decide)) rfl
  exact (congrArg (val_main_v3 (F := Ideal) x0 x3) (along_ix2 t _ _)).trans (congrArg (row x0 x3 t) h)

theorem indices_at (t : Fin 2048) (i : Fin 2) :
    val_main_indices (F := Ideal) x0 x3 (ix2 t i) = BitVec.ofNat 32 (place x0 x3 t i).val := by
  unfold val_main_indices Host.topK
  dsimp only
  rw [extractStridedSlice_apply _ _ _ (ix2 t i) (ix2 t (i.castLE (by decide) : Fin 8)) (fun a => by
    match a with
    | ⟨0, _⟩ => simp [ix2]
    | ⟨1, _⟩ => simp [ix2])]
  unfold Host.sort2
  rw [dif_pos (by decide)]
  have h := sorted_place x0 x3 t i (i.castLE (by decide)) rfl
  exact congrArg (fun p : Fin 8 => BitVec.ofNat 32 p.val) h

/-- The index pair of update `(t, i)`: the token. -/
theorem pair_token (t : Fin 2048) (i : Fin 2) :
    val_main_v20 (F := Ideal) x0 x3 (ix3 t i (0 : Fin 2)) = BitVec.ofNat 32 t.val := by
  unfold val_main_v20
  rw [concatenate_pair_apply_left (s₁ := S2048x2x1) (s₂ := S2048x2x1) 2 _ _ _ (ix3 t i (0 : Fin 2)) rfl (ix3 t i (0 : Fin 1)) (fun b => by
    match b with
    | ⟨0, _⟩ => rfl
    | ⟨1, _⟩ => rfl
    | ⟨2, _⟩ => rfl)]
  rw [val_main_v18_apply, val_main_v17_apply, val_main_v11_apply, val_main_v8_apply, val_main_v6_apply, val_main_v7_apply, val_main_c_apply,
    val_main_v5_apply, val_main_v10_apply, val_main_v9_apply, val_main_c_0_apply]
  have ht : (BitVec.ofNat 32 t.val).toNat < 2 ^ 31 := by
    rw [BitVec.toNat_ofNat]; have := t.isLt; omega
  show Scalar.select (IntOp.cmpi .slt (BitVec.ofNat 32 t.val) 0#32) _ (BitVec.ofNat 32 t.val) = _
  rw [WordCmp.cmpi_slt_zero, WordCmp.select_decide, if_neg (by omega)]

/-- The index pair of update `(t, i)`: the place. -/
theorem pair_place (t : Fin 2048) (i : Fin 2) :
    val_main_v20 (F := Ideal) x0 x3 (ix3 t i (1 : Fin 2)) = BitVec.ofNat 32 (place x0 x3 t i).val := by
  unfold val_main_v20
  rw [concatenate_pair_apply_right (s₁ := S2048x2x1) (s₂ := S2048x2x1) 2 _ _ _ (ix3 t i (1 : Fin 2)) rfl rfl (ix3 t i (0 : Fin 1)) (fun b hb => by
    match b with
    | ⟨0, _⟩ => rfl
    | ⟨1, _⟩ => rfl
    | ⟨2, _⟩ => exact absurd rfl hb) rfl]
  rw [val_main_v19_apply, val_main_v16_apply, val_main_v13_apply, val_main_v12_apply, val_main_c_1_apply]
  rw [show idx_main_v19 (ix3 t i (0 : Fin 1)) = ix2 t i from funext fun a => by
    match a with
    | ⟨0, _⟩ => rfl
    | ⟨1, _⟩ => rfl, indices_at]
  have ht : (BitVec.ofNat 32 (place x0 x3 t i).val).toNat < 2 ^ 31 := by
    rw [BitVec.toNat_ofNat]; have := (place x0 x3 t i).isLt; omega
  rw [WordCmp.cmpi_slt_zero, WordCmp.select_decide, if_neg (by omega)]

/-- The scores: each of the two greatest at its place, `-inf` elsewhere. -/
theorem scores_at (t : Fin 2048) (e : Fin 8) : val_main_v21 (F := Ideal) x0 x3 (ix2 t e) = kept (row x0 x3 t) e := by
  unfold val_main_v21
  rw [scatter_eq_dense (T := 2048) (C := 8) (K := 2) (by decide) scatter_S2048x8_S2048x2x2_S2048x2_n_01_01_2 rfl rfl rfl (by decide) (by decide)
    (val_main_v4 (F := Ideal)) (val_main_v20 (F := Ideal) x0 x3) (val_main_values (F := Ideal) x0 x3)
    (val_main_indices (F := Ideal) x0 x3) (val_main_values (F := Ideal) x0 x3) (⊥ : EReal)
    (fun ι => by rw [val_main_v4_apply, val_main_cst_apply]; exact ofBits_ninf) (pair_token x0 x3)
    (fun t i c _ => by rw [pair_place, indices_at]) (fun _ _ => rfl) (ix2 t e), dense_apply]
  show GS _ _ ⊥ e.val 2 = _
  have h0 := (candAt_of_lt (val_main_indices (F := Ideal) x0 x3) (K := 2) (by decide) t (t := 0) (by decide)).trans (indices_at x0 x3 t 0)
  have h1 := (candAt_of_lt (val_main_indices (F := Ideal) x0 x3) (K := 2) (by decide) t (t := 1) (by decide)).trans (indices_at x0 x3 t 1)
  have g0 := (candAt_of_lt (val_main_values (F := Ideal) x0 x3) (K := 2) (by decide) t (t := 0) (by decide)).trans (values_at x0 x3 t 0)
  have g1 := (candAt_of_lt (val_main_values (F := Ideal) x0 x3) (K := 2) (by decide) t (t := 1) (by decide)).trans (values_at x0 x3 t 1)
  have hw : ∀ p : Fin 8, e.val = (BitVec.ofNat 32 p.val).toNat ↔ e = p := fun p => by
    rw [BitVec.toNat_ofNat, Nat.mod_eq_of_lt (by have := p.isLt; omega), Fin.ext_iff]
  rw [GS_succ, GS_succ, GS_zero]
  show (if e.val = (candAt (val_main_indices (F := Ideal) x0 x3) (K := 2) _ t 1).toNat then candAt (val_main_values (F := Ideal) x0 x3) (K := 2) _ t 1
    else if e.val = (candAt (val_main_indices (F := Ideal) x0 x3) (K := 2) _ t 0).toNat then candAt (val_main_values (F := Ideal) x0 x3) (K := 2) _ t 0
      else ⊥) = _
  rw [h0, h1, g0, g1, if_congr (hw _) rfl rfl, if_congr (hw _) rfl rfl]
  show (if e = second (row x0 x3 t) then row x0 x3 t (second (row x0 x3 t)) else if e = first (row x0 x3 t) then row x0 x3 t (first (row x0 x3 t)) else ⊥)
    = if e = first (row x0 x3 t) ∨ e = second (row x0 x3 t) then row x0 x3 t e else ⊥
  by_cases h2 : e = second (row x0 x3 t)
  · rw [if_pos h2, if_pos (Or.inr h2), ← h2]
  · rw [if_neg h2]
    by_cases h1 : e = first (row x0 x3 t)
    · rw [if_pos h1, if_pos (Or.inl h1), ← h1]
    · rw [if_neg h1, if_neg (by tauto)]

end Cert.Arrow

end
-- ==== Proof.RefValue.lean ====
/-
  The reference's result at finite arguments is the layer's function.
-/
module

public import proofs.«01_k».proof.Proof.RefScore
public import proofs.«01_k».proof.Proof.Spec
public import Idealize.ShloMosaic.Lib.IdealHost

@[expose] public section

noncomputable section

namespace Cert.Arrow

open Cert.ReferenceIdeal Cert.ReferenceIdeal.Gen Cert.ReferenceIdeal.Read Idealize.ShloMosaic Idealize.ShloMosaic.ValueIdx

/-- Division by the real one changes nothing. -/
theorem div_one (x : EReal) : Ideal.div x 1 = x := by
  rw [show (1 : EReal) = ((1 : ℝ) : EReal) from rfl, Ideal.div_coe one_ne_zero, one_div_one, EReal.coe_one, mul_one]

/-- The absolute value of a real. -/
theorem abs_coe (a : ℝ) : max ((a : ℝ) : EReal) (-((a : ℝ) : EReal)) = ((|a| : ℝ) : EReal) := by
  rw [← EReal.coe_neg, abs, EReal.coe_strictMono.monotone.map_max]

/-- A dot of reals. -/
theorem dot_coe {n : ℕ} (f g : Fin n → EReal) (f' g' : Fin n → ℝ) (hf : ∀ k, f k = ((f' k : ℝ) : EReal)) (hg : ∀ k, g k = ((g' k : ℝ) : EReal)) :
    ∑ k, f k * g k = ((∑ k, f' k * g' k : ℝ) : EReal) := by
  simp only [hf, hg, ← EReal.coe_mul]
  exact coe_sum _ _

section Score

variable (x0 : (⟨S1x2048x2048, .f32⟩ : BufTy).Contents (Elt Ideal)) (x3 : (⟨S8x2048, .f32⟩ : BufTy).Contents (Elt Ideal))

/-- The scores over the temperature, one. -/
theorem scaled_at (t : Fin 2048) (e : Fin 8) : val_main_v23 (F := Ideal) x0 x3 (ix2 t e) = kept (row x0 x3 t) e := by
  rw [val_main_v23_apply, scores_at, val_main_v22_apply, val_main_cst_3_apply]
  show Ideal.div _ (Ideal.ofBits .f32 0x3F800000#32) = _
  rw [Ideal.ofBits_one_f32, div_one]

/-- The greatest score. -/
theorem max_at (t : Fin 2048) : val_main_v24 (F := Ideal) x0 x3 (ix1 t) = row x0 x3 t (first (row x0 x3 t)) := by
  unfold val_main_v24
  have hr : Shape.Reduces S2048x8 [1] S2048 := by decide
  rw [Host.reduce_eq_fold, Shape.ReducesTo.drop_eq_drop _ hr]
  refine (hr.fold_filter_drop_single _ _ _ (ix1 t)).trans ?_
  rw [← fold_kept (row x0 x3 t)]
  have h : ∀ k : Fin 8, val_main_v23 (F := Ideal) x0 x3 (hr.lift (ix1 t) k) = kept (row x0 x3 t) k := fun k => by
    rw [← scaled_at]
    exact congrArg _ (funext fun a => Fin.ext (by match a with | ⟨0, _⟩ => rfl | ⟨1, _⟩ => rfl))
  show (Finset.univ : Finset (Fin 8)).fold max (Ideal.ofBits .f32 0xFF800000#32) (fun k => val_main_v23 (F := Ideal) x0 x3 (hr.lift (ix1 t) k)) = _
  rw [ofBits_ninf]
  exact congrArg (fun f : Fin 8 → EReal => (Finset.univ : Finset (Fin 8)).fold max ⊥ f) (funext h)

theorem exp_at (t : Fin 2048) (e : Fin 8) :
    val_main_v30 (F := Ideal) x0 x3 (ix2 t e) = Ideal.exp (kept (row x0 x3 t) e - row x0 x3 t (first (row x0 x3 t))) := by
  rw [val_main_v30_apply, val_main_v29_apply, scaled_at, val_main_v28_apply, val_main_v27_apply, val_main_v26_apply, val_main_v25_apply,
    val_main_cst_5_apply]
  rw [show idx_main_v27 (idx_main_v28 (ix2 t e)) = ix1 t from funext fun a => by match a with | ⟨0, _⟩ => rfl, max_at]
  show Ideal.exp (_ - max (Ideal.ofBits .f32 0xFF800000#32) _) = _
  rw [ofBits_ninf, max_eq_right bot_le]

/-- The softmax. -/
theorem coeff_at (t : Fin 2048) (e : Fin 8) (s : Fin 8 → ℝ) (hs : row x0 x3 t = up s) :
    val_main_v34 (F := Ideal) x0 x3 (ix2 t e) = ((coeff s e : ℝ) : EReal) := by
  rw [val_main_v34_apply, exp_at, val_main_v33_apply, val_main_v32_apply, val_main_v31_apply, val_main_cst_6_apply]
  have h : ∀ k : Fin 8, val_main_v30 (F := Ideal) x0 x3 (idx_main_v31 (idx_main_v32 (idx_main_v33 (ix2 t e))) k)
      = Ideal.exp (kept (row x0 x3 t) k - row x0 x3 t (first (row x0 x3 t))) := fun k => by
    rw [← exp_at]
    exact congrArg _ (funext fun a => Fin.ext (by match a with | ⟨0, _⟩ => rfl | ⟨1, _⟩ => rfl))
  show Ideal.div _ (Ideal.ofBits .f32 0x00000000#32 + ∑ k : Fin 8, _) = _
  rw [Finset.sum_congr rfl fun k _ => h k, Ideal.ofBits_zero_f32, zero_add, hs]
  exact softmax_kept s e

end Score

section Value

variable (x0 : (⟨S1x2048x2048, .f32⟩ : BufTy).Contents (Elt Ideal)) (x1 : (⟨S8x16x2048, .f32⟩ : BufTy).Contents (Elt Ideal))
  (x2 : (⟨S8x2048x16, .f32⟩ : BufTy).Contents (Elt Ideal)) (x3 : (⟨S8x2048, .f32⟩ : BufTy).Contents (Elt Ideal))
  (x4 : (⟨S1, .f32⟩ : BufTy).Contents (Elt Ideal))
  (X : Fin 2048 → Fin 2048 → ℝ) (A : Fin 8 → Fin 16 → Fin 2048 → ℝ) (B : Fin 8 → Fin 2048 → Fin 16 → ℝ) (P : Fin 8 → Fin 2048 → ℝ) (c : ℝ)
  (h0 : ∀ t f, x0 (ix3 (0 : Fin 1) t f) = ((X t f : ℝ) : EReal)) (h1 : ∀ e r f, x1 (ix3 e r f) = ((A e r f : ℝ) : EReal))
  (h2 : ∀ e o r, x2 (ix3 e o r) = ((B e o r : ℝ) : EReal)) (h3 : ∀ e f, x3 (ix2 e f) = ((P e f : ℝ) : EReal))
  (h4 : x4 (ix1 (0 : Fin 1)) = ((c : ℝ) : EReal))

include h0 in
theorem token_at (t f : Fin 2048) : val_main_v0 (F := Ideal) x0 (ix2 t f) = ((X t f : ℝ) : EReal) := by
  rw [val_main_v0_apply, ← h0]
  refine congrArg x0 (funext fun a => Fin.ext ?_)
  have := f.isLt
  match a with
  | ⟨0, _⟩ => rfl
  | ⟨1, _⟩ => show (t.val * 2048 + f.val) / 2048 % 2048 = t.val; have := t.isLt; omega
  | ⟨2, _⟩ => show (t.val * 2048 + f.val) % 2048 = f.val; omega

include h0 h3 in
theorem row_eq (t : Fin 2048) : row x0 x3 t = up (sim X P t) := by
  funext e
  unfold row
  have hd : val_main_v2 (F := Ideal) x0 x3 (ix2 t e) = ((∑ k, X t k * P e k : ℝ) : EReal) := by
    rw [val_main_v2_apply]
    refine dot_coe _ _ _ _ (fun k => token_at x0 X h0 t k) (fun k => ?_)
    rw [val_main_v1_apply, ← h3]
    exact congrArg x3 (funext fun a => Fin.ext (by match a with | ⟨0, _⟩ => rfl | ⟨1, _⟩ => rfl))
  rw [val_main_v3_apply, hd]
  exact abs_coe _

include h0 h1 in
theorem down_at (t : Fin 2048) (e : Fin 8) (r : Fin 16) : val_main_v35 (F := Ideal) x0 x1 (ix3 t e r) = ((down X A t e r : ℝ) : EReal) := by
  rw [val_main_v35_apply]
  refine dot_coe _ _ _ _ (fun k => token_at x0 X h0 t k) (fun k => ?_)
  rw [← h1]
  exact congrArg x1 (funext fun a => Fin.ext (by match a with | ⟨0, _⟩ => rfl | ⟨1, _⟩ => rfl | ⟨2, _⟩ => rfl))

include h0 h1 h2 in
theorem up_at (t o : Fin 2048) (e : Fin 8) :
    val_main_v37 (F := Ideal) x0 x1 x2 (ix3 t e o) = ((∑ r, B e o r * down X A t e r : ℝ) : EReal) := by
  rw [val_main_v37_apply, val_main_v36_apply]
  refine dot_coe _ _ _ _ (fun k => ?_) (fun k => ?_)
  · rw [← h2]
    exact congrArg x2 (funext fun a => Fin.ext (by match a with | ⟨0, _⟩ => rfl | ⟨1, _⟩ => rfl | ⟨2, _⟩ => rfl))
  · rw [← down_at x0 x1 X A h0 h1]
    exact congrArg _ (funext fun a => Fin.ext (by match a with | ⟨0, _⟩ => rfl | ⟨1, _⟩ => rfl | ⟨2, _⟩ => rfl))

include h0 h1 h2 h3 h4 in
/-- The reference's result is the layer's output. -/
theorem reference_value (t o : Fin 2048) :
    val_main_v42 (F := Ideal) x0 x1 x2 x3 x4 (ix3 (0 : Fin 1) t o) = ((layer X A B P c t o : ℝ) : EReal) := by
  have ht : idx_main_v42 (ix3 (0 : Fin 1) t o) = ix2 t o := funext fun a => Fin.ext (by
    have := o.isLt
    match a with
    | ⟨0, _⟩ => show ((0 * 2048 + t.val) * 2048 + o.val) / 2048 = t.val; omega
    | ⟨1, _⟩ => show ((0 * 2048 + t.val) * 2048 + o.val) % 2048 = o.val; omega)
  rw [val_main_v42_apply, ht, val_main_v41_apply, val_main_v40_apply, val_main_v38_apply]
  have hc : val_main_v39 (F := Ideal) x4 (idx_main_v40 (ix2 t o)) = ((c : ℝ) : EReal) := by
    rw [← h4]
    unfold val_main_v39
    exact shapeCast_apply x4 shapeCasts_S1_S_ _ (ix1 (0 : Fin 1)) (by
      have a : (Shape.rowMajor S1 (ix1 (0 : Fin 1))).val < 1 := (Shape.rowMajor S1 (ix1 (0 : Fin 1))).isLt
      have b : (Shape.rowMajor S_ (idx_main_v40 (ix2 t o))).val < 1 := (Shape.rowMajor S_ (idx_main_v40 (ix2 t o))).isLt
      exact (Nat.lt_one_iff.mp a).trans (Nat.lt_one_iff.mp b).symm)
  rw [hc]
  show ((c : ℝ) : EReal) * ∑ k : Fin 8, _ = _
  rw [dot_coe _ _ (fun e => coeff (sim X P t) e) (fun e => ∑ r, B e o r * down X A t e r) (fun e => ?_) (fun e => ?_), ← EReal.coe_mul]
  · rfl
  · rw [← coeff_at x0 x3 t e _ (row_eq x0 x3 X P h0 h3 t)]
    exact congrArg _ (funext fun a => Fin.ext (by match a with | ⟨0, _⟩ => rfl | ⟨1, _⟩ => rfl))
  · rw [← up_at x0 x1 x2 X A B h0 h1 h2]
    exact congrArg _ (funext fun a => Fin.ext (by match a with | ⟨0, _⟩ => rfl | ⟨1, _⟩ => rfl | ⟨2, _⟩ => rfl))

end Value

end Cert.Arrow

end
-- ==== Proof.Equation.lean ====
/-
  The equation: where every argument is finite, the kernel's result and the reference's are both the layer's function of the arguments' real values.
-/
module

public import proofs.«01_k».proof.Proof.KernelArray
public import proofs.«01_k».proof.Proof.RefValue
public import proofs.«01_k».proof.Proof.Gen.Pre_finite
public import proofs.«01_k».proof.Defs

@[expose] public section

noncomputable section

namespace Cert.Arrow

open Idealize.ShloMosaic Idealize.ShloMosaic.ValueIdx Idealize.SL.Sem
open Cert.KernelIdeal.Gen (dats V0 hostOps1 run_main unchanged)

/-- An extended real whose absolute value is below the top is a real. -/
theorem real_of_abs_lt (a : EReal) (h : Ideal.cmp .olt (max a (-a)) ⊤ = 1#1) : a = ((a.toReal : ℝ) : EReal) := by
  have hlt : max a (-a) < ⊤ := by
    by_contra hn
    have h' : BitVec.ofBool (decide (max a (-a) < ⊤)) = 1#1 := h
    rw [decide_eq_false hn] at h'
    exact absurd h' (by decide)
  refine (EReal.coe_toReal (fun e => ?_) (fun e => ?_)).symm
  · rw [e] at hlt; exact absurd (lt_of_le_of_lt (le_max_left _ _) hlt) (lt_irrefl _)
  · rw [e] at hlt; exact absurd (lt_of_le_of_lt (le_max_right _ _) hlt) (by rw [EReal.neg_bot]; exact lt_irrefl _)

/-- An array that the precondition holds of is an array of reals. -/
theorem real_of_finite {S : Shape} (x : FVec Ideal S .f32) (hb : Cert.Pre_finite.S_.BroadcastsInDim S ![])
    (h : cmpf .olt (Host.absf x) (broadcastInDim S ![] hb (constant (F := Ideal) Cert.Pre_finite.S_ .f32 0x7F800000#32)) = fun _ => 1#1) (i : S.Idx) :
    x i = (((x i).toReal : ℝ) : EReal) := by
  refine real_of_abs_lt (x i) ?_
  have hi : Ideal.cmp .olt (max (x i) (-(x i))) (Ideal.ofBits .f32 0x7F800000#32) = 1#1 := congrFun h i
  rwa [ofBits_pinf] at hi

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's result on core `c`. -/
abbrev kernelResult (c : Dev Cert.KernelIdeal.nD) : Buf (Elt Ideal) ((c.tc : Thread Cert.KernelIdeal.nD Cert.KernelIdeal.τ).loc Cert.KernelIdeal.main_v6) :=
  Pipeline.afterTail₀ Cert.KernelIdeal.cfgs (dats m) 0 (V0 m) [hostOps1] c Cert.KernelIdeal.main_v6

/-- The two results agree where every argument is finite. -/
theorem results_agree (hpre : Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v42 m' c = kernelResult m c := by
  obtain ⟨p0, p1, p2, p3, p4⟩ := hpre c
  simp only [Cert.Pre_finite.fn] at p0 p1 p2 p3 p4
  have r0 := real_of_finite _ _ p0
  have r1 := real_of_finite _ _ p1
  have r2 := real_of_finite _ _ p2
  have r3 := real_of_finite _ _ p3
  have r4 := real_of_finite _ _ p4
  rw [Cert.ReferenceIdeal.Read.val_main_v42_eq, h0, h1, h2, h3, h4]
  funext y
  obtain ⟨t, o, rfl⟩ : ∃ t o : Fin 2048, y = ix3 (0 : Fin 1) t o :=
    ⟨y 1, y 2, funext fun a => by match a with | ⟨0, _⟩ => exact Subsingleton.elim (α := Fin 1) _ _ | ⟨1, _⟩ => rfl | ⟨2, _⟩ => rfl⟩
  refine (reference_value _ _ _ _ _
    (fun t f => (m ((c.tc : Thread Cert.KernelIdeal.nD Cert.KernelIdeal.τ).loc Cert.KernelIdeal.main_arg0) (ix3 (0 : Fin 1) t f)).toReal)
    (fun e r f => (m ((c.tc : Thread Cert.KernelIdeal.nD Cert.KernelIdeal.τ).loc Cert.KernelIdeal.main_arg1) (ix3 e r f)).toReal)
    (fun e o r => (m ((c.tc : Thread Cert.KernelIdeal.nD Cert.KernelIdeal.τ).loc Cert.KernelIdeal.main_arg2) (ix3 e o r)).toReal)
    (fun e f => (m ((c.tc : Thread Cert.KernelIdeal.nD Cert.KernelIdeal.τ).loc Cert.KernelIdeal.main_arg3) (ix2 e f)).toReal)
    (m ((c.tc : Thread Cert.KernelIdeal.nD Cert.KernelIdeal.τ).loc Cert.KernelIdeal.main_arg4) (ix1 (0 : Fin 1))).toReal
    (fun _ _ => r0 _) (fun _ _ _ => r1 _) (fun _ _ _ => r2 _) (fun _ _ => r3 _) (r4 _) t o).trans ?_
  exact (result_at m c _ _ _ _ _ (fun _ _ => r0 _) (fun _ _ _ => r1 _) (fun _ _ _ => r2 _) (fun _ _ => r3 _) (r4 _) t o).symm

end

/-- The kernel's run, read: the result at `kernelResult`, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, r.2.mem ((c.tc : Thread Cert.KernelIdeal.nD Cert.KernelIdeal.τ).loc Cert.KernelIdeal.main_v6) = kernelResult m c) :=
  (θ_run _ _ _).mono (fun _ h c => (h c).2 Cert.KernelIdeal.main_v6 (Pipeline.mem_restRefs_of Cert.KernelIdeal.main_v6 (by decide) (by decide))) (run_main m ρ)

/-- The value claim: from memories that agree on the arguments, every argument finite, the two programs end with equal results. -/
theorem equal_results : Cert.algebraic_KernelIdeal_ReferenceIdeal_pre_finite := fun m ρ m' ρ' hpre hargs =>
  ⟨kernelResult m,
    (θ_run _ _ _).mono (fun _ h c => ⟨h.1 c, h.2 c⟩) (θ_run_and (kernel_run m ρ) (unchanged m ρ)),
    (θ_run _ _ _).mono (fun _ h c => ⟨(h c).1.trans (results_agree m m' hpre c (hargs c).1 (hargs c).2.1 (hargs c).2.2.1 (hargs c).2.2.2.1 (hargs c).2.2.2.2), (h c).2⟩)
      (Cert.ReferenceIdeal.Value.run (F := Ideal) m' ρ')⟩

end Cert.Arrow

end
-- ==== Proof.lean ====
/-
  The proof of `Cert.Claim`: the frames of the three programs, `preserves`, and the value claim, assembled from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference declares no semaphore; its run leaves the arguments as they were. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, Cert.Arrow.equal_results⟩

end Cert.Proof

end
